-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4608 : Shape := ⟨3, ![8, 1, 4608]⟩
abbrev S73728x144x34 : Shape := ⟨3, ![73728, 144, 34]⟩
abbrev S8x18x8x32 : Shape := ⟨4, ![8, 18, 8, 32]⟩
abbrev S18x8x32x8 : Shape := ⟨4, ![18, 8, 32, 8]⟩
abbrev S18x8x256 : Shape := ⟨3, ![18, 8, 256]⟩
abbrev S34x144x73728 : Shape := ⟨3, ![34, 144, 73728]⟩
abbrev S8x73728 : Shape := ⟨2, ![8, 73728]⟩
abbrev S34x144x1024 : Shape := ⟨3, ![34, 144, 1024]⟩
abbrev S8x1024 : Shape := ⟨2, ![8, 1024]⟩
abbrev S8x512 : Shape := ⟨2, ![8, 512]⟩
abbrev S1x8x512 : Shape := ⟨3, ![1, 8, 512]⟩
abbrev S256x512 : Shape := ⟨2, ![256, 512]⟩
abbrev S1x8x256 : Shape := ⟨3, ![1, 8, 256]⟩
abbrev S8x256 : Shape := ⟨2, ![8, 256]⟩
abbrev S8x1x73728 : Shape := ⟨3, ![8, 1, 73728]⟩

abbrev nBuf : Space → Nat
  | .hbm => 8
  | .vmem => 5
  | .smem => 0
  | _ => 0

abbrev bufTy : (tb : Table) → Fin (tcTables nBuf tb) → BufTy
  | .hbm, ⟨0, _⟩ => ⟨S8x1x4608, .bf16⟩
  | .hbm, ⟨1, _⟩ => ⟨S73728x144x34, .i8⟩
  | .hbm, ⟨2, _⟩ => ⟨S8x18x8x32, .bf16⟩
  | .hbm, ⟨3, _⟩ => ⟨S18x8x32x8, .bf16⟩
  | .hbm, ⟨4, _⟩ => ⟨S18x8x256, .bf16⟩
  | .hbm, ⟨5, _⟩ => ⟨S34x144x73728, .i8⟩
  | .hbm, ⟨6, _⟩ => ⟨S8x73728, .bf16⟩
  | .hbm, ⟨7, _⟩ => ⟨S8x1x73728, .bf16⟩
  | .local _ .vmem, ⟨0, _⟩ => ⟨S18x8x256, .bf16⟩
  | .local _ .vmem, ⟨1, _⟩ => ⟨S34x144x1024, .i8⟩
  | .local _ .vmem, ⟨2, _⟩ => ⟨S34x144x1024, .i8⟩
  | .local _ .vmem, ⟨3, _⟩ => ⟨S8x1024, .bf16⟩
  | .local _ .vmem, ⟨4, _⟩ => ⟨S8x1024, .bf16⟩
  | _, _ => ⟨S8x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  v1
def k0_off1 (k0_t1 : Fin k0_t1_loop.trips) : Fin 3 → Nat :=
  let c0 : Index := 0#32
  let c0_1 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4 : Index := Scalar.indexCast v2
  ![0, 0, v4.toNat]
def k0_off2 (k0_t1 : Fin k0_t1_loop.trips) : Fin 3 → Nat :=
  let c1 : Index := 1#32
  let c0_2 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v7 : Index := Scalar.indexCast v2
  ![1, 0, v7.toNat]
def k0_off3 (k0_t1 : Fin k0_t1_loop.trips) : Fin 3 → Nat :=
  let c2 : Index := 2#32
  let c0_5 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v40 : Index := Scalar.indexCast v2
  ![2, 0, v40.toNat]
def k0_off4 (k0_t1 : Fin k0_t1_loop.trips) : Fin 3 → Nat :=
  let c3 : Index := 3#32
  let c0_6 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v46 : Index := Scalar.indexCast v2
  ![3, 0, v46.toNat]
def k0_off5 (k0_t1 : Fin k0_t1_loop.trips) : Fin 3 → Nat :=
  let c4 : Index := 4#32
  let c0_7 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v52 : Index := Scalar.indexCast v2
  ![4, 0, v52.toNat]
def k0_off6 (k0_t1 : Fin k0_t1_loop.trips) : Fin 3 → Nat :=
  let c5 : Index := 5#32
  let c0_8 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v58 : Index := Scalar.indexCast v2
  ![5, 0, v58.toNat]
def k0_off7 (k0_t1 : Fin k0_t1_loop.trips) : Fin 3 → Nat :=
  let c6 : Index := 6#32
  let c0_9 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v64 : Index := Scalar.indexCast v2
  ![6, 0, v64.toNat]
def k0_off8 (k0_t1 : Fin k0_t1_loop.trips) : Fin 3 → Nat :=
  let c7 : Index := 7#32
  let c0_10 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v70 : Index := Scalar.indexCast v2
  ![7, 0, v70.toNat]
def k0_off9 (k0_t1 : Fin k0_t1_loop.trips) : Fin 3 → Nat :=
  let c8 : Index := 8#32
  let c0_11 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v76 : Index := Scalar.indexCast v2
  ![8, 0, v76.toNat]
def k0_off10 (k0_t1 : Fin k0_t1_loop.trips) : Fin 3 → Nat :=
  let c9 : Index := 9#32
  let c0_12 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v82 : Index := Scalar.indexCast v2
  ![9, 0, v82.toNat]
def k0_off11 (k0_t1 : Fin k0_t1_loop.trips) : Fin 3 → Nat :=
  let c10 : Index := 10#32
  let c0_13 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v88 : Index := Scalar.indexCast v2
  ![10, 0, v88.toNat]
def k0_off12 (k0_t1 : Fin k0_t1_loop.trips) : Fin 3 → Nat :=
  let c11 : Index := 11#32
  let c0_14 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v94 : Index := Scalar.indexCast v2
  ![11, 0, v94.toNat]
def k0_off13 (k0_t1 : Fin k0_t1_loop.trips) : Fin 3 → Nat :=
  let c12 : Index := 12#32
  let c0_15 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v100 : Index := Scalar.indexCast v2
  ![12, 0, v100.toNat]
def k0_off14 (k0_t1 : Fin k0_t1_loop.trips) : Fin 3 → Nat :=
  let c13 : Index := 13#32
  let c0_16 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v106 : Index := Scalar.indexCast v2
  ![13, 0, v106.toNat]
def k0_off15 (k0_t1 : Fin k0_t1_loop.trips) : Fin 3 → Nat :=
  let c14 : Index := 14#32
  let c0_17 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v112 : Index := Scalar.indexCast v2
  ![14, 0, v112.toNat]
def k0_off16 (k0_t1 : Fin k0_t1_loop.trips) : Fin 3 → Nat :=
  let c15 : Index := 15#32
  let c0_18 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v118 : Index := Scalar.indexCast v2
  ![15, 0, v118.toNat]
def k0_off17 (k0_t1 : Fin k0_t1_loop.trips) : Fin 3 → Nat :=
  let c16 : Index := 16#32
  let c0_19 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v124 : Index := Scalar.indexCast v2
  ![16, 0, v124.toNat]
def k0_off18 (k0_t1 : Fin k0_t1_loop.trips) : Fin 3 → Nat :=
  let c17 : Index := 17#32
  let c0_20 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v130 : Index := Scalar.indexCast v2
  ![17, 0, v130.toNat]
def k0_off19 (k0_t1 : Fin k0_t1_loop.trips) : Fin 3 → Nat :=
  let c18 : Index := 18#32
  let c0_21 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v136 : Index := Scalar.indexCast v2
  ![18, 0, v136.toNat]
def k0_off20 (k0_t1 : Fin k0_t1_loop.trips) : Fin 3 → Nat :=
  let c19 : Index := 19#32
  let c0_22 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v142 : Index := Scalar.indexCast v2
  ![19, 0, v142.toNat]
def k0_off21 (k0_t1 : Fin k0_t1_loop.trips) : Fin 3 → Nat :=
  let c20 : Index := 20#32
  let c0_23 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v148 : Index := Scalar.indexCast v2
  ![20, 0, v148.toNat]
def k0_off22 (k0_t1 : Fin k0_t1_loop.trips) : Fin 3 → Nat :=
  let c21 : Index := 21#32
  let c0_24 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v154 : Index := Scalar.indexCast v2
  ![21, 0, v154.toNat]
def k0_off23 (k0_t1 : Fin k0_t1_loop.trips) : Fin 3 → Nat :=
  let c22 : Index := 22#32
  let c0_25 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v160 : Index := Scalar.indexCast v2
  ![22, 0, v160.toNat]
def k0_off24 (k0_t1 : Fin k0_t1_loop.trips) : Fin 3 → Nat :=
  let c23 : Index := 23#32
  let c0_26 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v166 : Index := Scalar.indexCast v2
  ![23, 0, v166.toNat]
def k0_off25 (k0_t1 : Fin k0_t1_loop.trips) : Fin 3 → Nat :=
  let c24 : Index := 24#32
  let c0_27 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v172 : Index := Scalar.indexCast v2
  ![24, 0, v172.toNat]
def k0_off26 (k0_t1 : Fin k0_t1_loop.trips) : Fin 3 → Nat :=
  let c25 : Index := 25#32
  let c0_28 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v178 : Index := Scalar.indexCast v2
  ![25, 0, v178.toNat]
def k0_off27 (k0_t1 : Fin k0_t1_loop.trips) : Fin 3 → Nat :=
  let c26 : Index := 26#32
  let c0_29 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v184 : Index := Scalar.indexCast v2
  ![26, 0, v184.toNat]
def k0_off28 (k0_t1 : Fin k0_t1_loop.trips) : Fin 3 → Nat :=
  let c27 : Index := 27#32
  let c0_30 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v190 : Index := Scalar.indexCast v2
  ![27, 0, v190.toNat]
def k0_off29 (k0_t1 : Fin k0_t1_loop.trips) : Fin 3 → Nat :=
  let c28 : Index := 28#32
  let c0_31 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v196 : Index := Scalar.indexCast v2
  ![28, 0, v196.toNat]
def k0_off30 (k0_t1 : Fin k0_t1_loop.trips) : Fin 3 → Nat :=
  let c29 : Index := 29#32
  let c0_32 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v202 : Index := Scalar.indexCast v2
  ![29, 0, v202.toNat]
def k0_off31 (k0_t1 : Fin k0_t1_loop.trips) : Fin 3 → Nat :=
  let c30 : Index := 30#32
  let c0_33 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v208 : Index := Scalar.indexCast v2
  ![30, 0, v208.toNat]
def k0_off32 (k0_t1 : Fin k0_t1_loop.trips) : Fin 3 → Nat :=
  let c31 : Index := 31#32
  let c0_34 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v214 : Index := Scalar.indexCast v2
  ![31, 0, v214.toNat]
def k0_off33 (k0_t1 : Fin k0_t1_loop.trips) : Fin 3 → Nat :=
  let c32 : Index := 32#32
  let c0_35 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v220 : Index := Scalar.indexCast v2
  ![32, 0, v220.toNat]
def k0_off34 (k0_t1 : Fin k0_t1_loop.trips) : Fin 3 → Nat :=
  let c33 : Index := 33#32
  let c0_36 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v226 : Index := Scalar.indexCast v2
  ![33, 0, v226.toNat]
def k0_off35 (k0_t1 : Fin k0_t1_loop.trips) : Fin 3 → Nat :=
  let c0_41 : Index := 0#32
  let c8_42 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v238 : Index := Scalar.indexCast v2
  ![0, 8, v238.toNat]
def k0_off36 (k0_t1 : Fin k0_t1_loop.trips) : Fin 3 → Nat :=
  let c1_43 : Index := 1#32
  let c8_44 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v241 : Index := Scalar.indexCast v2
  ![1, 8, v241.toNat]
def k0_off37 (k0_t1 : Fin k0_t1_loop.trips) : Fin 3 → Nat :=
  let c2_54 : Index := 2#32
  let c8_55 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v274 : Index := Scalar.indexCast v2
  ![2, 8, v274.toNat]
def k0_off38 (k0_t1 : Fin k0_t1_loop.trips) : Fin 3 → Nat :=
  let c3_56 : Index := 3#32
  let c8_57 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v280 : Index := Scalar.indexCast v2
  ![3, 8, v280.toNat]
def k0_off39 (k0_t1 : Fin k0_t1_loop.trips) : Fin 3 → Nat :=
  let c4_58 : Index := 4#32
  let c8_59 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v286 : Index := Scalar.indexCast v2
  ![4, 8, v286.toNat]
def k0_off40 (k0_t1 : Fin k0_t1_loop.trips) : Fin 3 → Nat :=
  let c5_60 : Index := 5#32
  let c8_61 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v292 : Index := Scalar.indexCast v2
  ![5, 8, v292.toNat]
def k0_off41 (k0_t1 : Fin k0_t1_loop.trips) : Fin 3 → Nat :=
  let c6_62 : Index := 6#32
  let c8_63 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v298 : Index := Scalar.indexCast v2
  ![6, 8, v298.toNat]
def k0_off42 (k0_t1 : Fin k0_t1_loop.trips) : Fin 3 → Nat :=
  let c7_64 : Index := 7#32
  let c8_65 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v304 : Index := Scalar.indexCast v2
  ![7, 8, v304.toNat]
def k0_off43 (k0_t1 : Fin k0_t1_loop.trips) : Fin 3 → Nat :=
  let c8_66 : Index := 8#32
  let c8_67 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v310 : Index := Scalar.indexCast v2
  ![8, 8, v310.toNat]
def k0_off44 (k0_t1 : Fin k0_t1_loop.trips) : Fin 3 → Nat :=
  let c9_68 : Index := 9#32
  let c8_69 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v316 : Index := Scalar.indexCast v2
  ![9, 8, v316.toNat]
def k0_off45 (k0_t1 : Fin k0_t1_loop.trips) : Fin 3 → Nat :=
  let c10_70 : Index := 10#32
  let c8_71 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v322 : Index := Scalar.indexCast v2
  ![10, 8, v322.toNat]
def k0_off46 (k0_t1 : Fin k0_t1_loop.trips) : Fin 3 → Nat :=
  let c11_72 : Index := 11#32
  let c8_73 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v328 : Index := Scalar.indexCast v2
  ![11, 8, v328.toNat]
def k0_off47 (k0_t1 : Fin k0_t1_loop.trips) : Fin 3 → Nat :=
  let c12_74 : Index := 12#32
  let c8_75 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v334 : Index := Scalar.indexCast v2
  ![12, 8, v334.toNat]
def k0_off48 (k0_t1 : Fin k0_t1_loop.trips) : Fin 3 → Nat :=
  let c13_76 : Index := 13#32
  let c8_77 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v340 : Index := Scalar.indexCast v2
  ![13, 8, v340.toNat]
def k0_off49 (k0_t1 : Fin k0_t1_loop.trips) : Fin 3 → Nat :=
  let c14_78 : Index := 14#32
  let c8_79 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v346 : Index := Scalar.indexCast v2
  ![14, 8, v346.toNat]
def k0_off50 (k0_t1 : Fin k0_t1_loop.trips) : Fin 3 → Nat :=
  let c15_80 : Index := 15#32
  let c8_81 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v352 : Index := Scalar.indexCast v2
  ![15, 8, v352.toNat]
def k0_off51 (k0_t1 : Fin k0_t1_loop.trips) : Fin 3 → Nat :=
  let c16_82 : Index := 16#32
  let c8_83 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v358 : Index := Scalar.indexCast v2
  ![16, 8, v358.toNat]
def k0_off52 (k0_t1 : Fin k0_t1_loop.trips) : Fin 3 → Nat :=
  let c17_84 : Index := 17#32
  let c8_85 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v364 : Index := Scalar.indexCast v2
  ![17, 8, v364.toNat]
def k0_off53 (k0_t1 : Fin k0_t1_loop.trips) : Fin 3 → Nat :=
  let c18_86 : Index := 18#32
  let c8_87 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v370 : Index := Scalar.indexCast v2
  ![18, 8, v370.toNat]
def k0_off54 (k0_t1 : Fin k0_t1_loop.trips) : Fin 3 → Nat :=
  let c19_88 : Index := 19#32
  let c8_89 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v376 : Index := Scalar.indexCast v2
  ![19, 8, v376.toNat]
def k0_off55 (k0_t1 : Fin k0_t1_loop.trips) : Fin 3 → Nat :=
  let c20_90 : Index := 20#32
  let c8_91 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v382 : Index := Scalar.indexCast v2
  ![20, 8, v382.toNat]
def k0_off56 (k0_t1 : Fin k0_t1_loop.trips) : Fin 3 → Nat :=
  let c21_92 : Index := 21#32
  let c8_93 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v388 : Index := Scalar.indexCast v2
  ![21, 8, v388.toNat]
def k0_off57 (k0_t1 : Fin k0_t1_loop.trips) : Fin 3 → Nat :=
  let c22_94 : Index := 22#32
  let c8_95 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v394 : Index := Scalar.indexCast v2
  ![22, 8, v394.toNat]
def k0_off58 (k0_t1 : Fin k0_t1_loop.trips) : Fin 3 → Nat :=
  let c23_96 : Index := 23#32
  let c8_97 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v400 : Index := Scalar.indexCast v2
  ![23, 8, v400.toNat]
def k0_off59 (k0_t1 : Fin k0_t1_loop.trips) : Fin 3 → Nat :=
  let c24_98 : Index := 24#32
  let c8_99 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v406 : Index := Scalar.indexCast v2
  ![24, 8, v406.toNat]
def k0_off60 (k0_t1 : Fin k0_t1_loop.trips) : Fin 3 → Nat :=
  let c25_100 : Index := 25#32
  let c8_101 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v412 : Index := Scalar.indexCast v2
  ![25, 8, v412.toNat]
def k0_off61 (k0_t1 : Fin k0_t1_loop.trips) : Fin 3 → Nat :=
  let c26_102 : Index := 26#32
  let c8_103 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v418 : Index := Scalar.indexCast v2
  ![26, 8, v418.toNat]
def k0_off62 (k0_t1 : Fin k0_t1_loop.trips) : Fin 3 → Nat :=
  let c27_104 : Index := 27#32
  let c8_105 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v424 : Index := Scalar.indexCast v2
  ![27, 8, v424.toNat]
def k0_off63 (k0_t1 : Fin k0_t1_loop.trips) : Fin 3 → Nat :=
  let c28_106 : Index := 28#32
  let c8_107 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v430 : Index := Scalar.indexCast v2
  ![28, 8, v430.toNat]
def k0_off64 (k0_t1 : Fin k0_t1_loop.trips) : Fin 3 → Nat :=
  let c29_108 : Index := 29#32
  let c8_109 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v436 : Index := Scalar.indexCast v2
  ![29, 8, v436.toNat]
def k0_off65 (k0_t1 : Fin k0_t1_loop.trips) : Fin 3 → Nat :=
  let c30_110 : Index := 30#32
  let c8_111 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v442 : Index := Scalar.indexCast v2
  ![30, 8, v442.toNat]
def k0_off66 (k0_t1 : Fin k0_t1_loop.trips) : Fin 3 → Nat :=
  let c31_112 : Index := 31#32
  let c8_113 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v448 : Index := Scalar.indexCast v2
  ![31, 8, v448.toNat]
def k0_off67 (k0_t1 : Fin k0_t1_loop.trips) : Fin 3 → Nat :=
  let c32_114 : Index := 32#32
  let c8_115 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v454 : Index := Scalar.indexCast v2
  ![32, 8, v454.toNat]
def k0_off68 (k0_t1 : Fin k0_t1_loop.trips) : Fin 3 → Nat :=
  let c33_116 : Index := 33#32
  let c8_117 : Index := 8#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v460 : Index := Scalar.indexCast v2
  ![33, 8, v460.toNat]
def k0_off69 (k0_t1 : Fin k0_t1_loop.trips) : Fin 3 → Nat :=
  let c0_122 : Index := 0#32
  let c16_123 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v472 : Index := Scalar.indexCast v2
  ![0, 16, v472.toNat]
def k0_off70 (k0_t1 : Fin k0_t1_loop.trips) : Fin 3 → Nat :=
  let c1_124 : Index := 1#32
  let c16_125 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v475 : Index := Scalar.indexCast v2
  ![1, 16, v475.toNat]
def k0_off71 (k0_t1 : Fin k0_t1_loop.trips) : Fin 3 → Nat :=
  let c2_135 : Index := 2#32
  let c16_136 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v508 : Index := Scalar.indexCast v2
  ![2, 16, v508.toNat]
def k0_off72 (k0_t1 : Fin k0_t1_loop.trips) : Fin 3 → Nat :=
  let c3_137 : Index := 3#32
  let c16_138 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v514 : Index := Scalar.indexCast v2
  ![3, 16, v514.toNat]
def k0_off73 (k0_t1 : Fin k0_t1_loop.trips) : Fin 3 → Nat :=
  let c4_139 : Index := 4#32
  let c16_140 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v520 : Index := Scalar.indexCast v2
  ![4, 16, v520.toNat]
def k0_off74 (k0_t1 : Fin k0_t1_loop.trips) : Fin 3 → Nat :=
  let c5_141 : Index := 5#32
  let c16_142 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v526 : Index := Scalar.indexCast v2
  ![5, 16, v526.toNat]
def k0_off75 (k0_t1 : Fin k0_t1_loop.trips) : Fin 3 → Nat :=
  let c6_143 : Index := 6#32
  let c16_144 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v532 : Index := Scalar.indexCast v2
  ![6, 16, v532.toNat]
def k0_off76 (k0_t1 : Fin k0_t1_loop.trips) : Fin 3 → Nat :=
  let c7_145 : Index := 7#32
  let c16_146 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v538 : Index := Scalar.indexCast v2
  ![7, 16, v538.toNat]
def k0_off77 (k0_t1 : Fin k0_t1_loop.trips) : Fin 3 → Nat :=
  let c8_147 : Index := 8#32
  let c16_148 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v544 : Index := Scalar.indexCast v2
  ![8, 16, v544.toNat]
def k0_off78 (k0_t1 : Fin k0_t1_loop.trips) : Fin 3 → Nat :=
  let c9_149 : Index := 9#32
  let c16_150 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v550 : Index := Scalar.indexCast v2
  ![9, 16, v550.toNat]
def k0_off79 (k0_t1 : Fin k0_t1_loop.trips) : Fin 3 → Nat :=
  let c10_151 : Index := 10#32
  let c16_152 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v556 : Index := Scalar.indexCast v2
  ![10, 16, v556.toNat]
def k0_off80 (k0_t1 : Fin k0_t1_loop.trips) : Fin 3 → Nat :=
  let c11_153 : Index := 11#32
  let c16_154 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v562 : Index := Scalar.indexCast v2
  ![11, 16, v562.toNat]
def k0_off81 (k0_t1 : Fin k0_t1_loop.trips) : Fin 3 → Nat :=
  let c12_155 : Index := 12#32
  let c16_156 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v568 : Index := Scalar.indexCast v2
  ![12, 16, v568.toNat]
def k0_off82 (k0_t1 : Fin k0_t1_loop.trips) : Fin 3 → Nat :=
  let c13_157 : Index := 13#32
  let c16_158 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v574 : Index := Scalar.indexCast v2
  ![13, 16, v574.toNat]
def k0_off83 (k0_t1 : Fin k0_t1_loop.trips) : Fin 3 → Nat :=
  let c14_159 : Index := 14#32
  let c16_160 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v580 : Index := Scalar.indexCast v2
  ![14, 16, v580.toNat]
def k0_off84 (k0_t1 : Fin k0_t1_loop.trips) : Fin 3 → Nat :=
  let c15_161 : Index := 15#32
  let c16_162 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v586 : Index := Scalar.indexCast v2
  ![15, 16, v586.toNat]
def k0_off85 (k0_t1 : Fin k0_t1_loop.trips) : Fin 3 → Nat :=
  let c16_163 : Index := 16#32
  let c16_164 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v592 : Index := Scalar.indexCast v2
  ![16, 16, v592.toNat]
def k0_off86 (k0_t1 : Fin k0_t1_loop.trips) : Fin 3 → Nat :=
  let c17_165 : Index := 17#32
  let c16_166 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v598 : Index := Scalar.indexCast v2
  ![17, 16, v598.toNat]
def k0_off87 (k0_t1 : Fin k0_t1_loop.trips) : Fin 3 → Nat :=
  let c18_167 : Index := 18#32
  let c16_168 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v604 : Index := Scalar.indexCast v2
  ![18, 16, v604.toNat]
def k0_off88 (k0_t1 : Fin k0_t1_loop.trips) : Fin 3 → Nat :=
  let c19_169 : Index := 19#32
  let c16_170 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v610 : Index := Scalar.indexCast v2
  ![19, 16, v610.toNat]
def k0_off89 (k0_t1 : Fin k0_t1_loop.trips) : Fin 3 → Nat :=
  let c20_171 : Index := 20#32
  let c16_172 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v616 : Index := Scalar.indexCast v2
  ![20, 16, v616.toNat]
def k0_off90 (k0_t1 : Fin k0_t1_loop.trips) : Fin 3 → Nat :=
  let c21_173 : Index := 21#32
  let c16_174 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v622 : Index := Scalar.indexCast v2
  ![21, 16, v622.toNat]
def k0_off91 (k0_t1 : Fin k0_t1_loop.trips) : Fin 3 → Nat :=
  let c22_175 : Index := 22#32
  let c16_176 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v628 : Index := Scalar.indexCast v2
  ![22, 16, v628.toNat]
def k0_off92 (k0_t1 : Fin k0_t1_loop.trips) : Fin 3 → Nat :=
  let c23_177 : Index := 23#32
  let c16_178 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v634 : Index := Scalar.indexCast v2
  ![23, 16, v634.toNat]
def k0_off93 (k0_t1 : Fin k0_t1_loop.trips) : Fin 3 → Nat :=
  let c24_179 : Index := 24#32
  let c16_180 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v640 : Index := Scalar.indexCast v2
  ![24, 16, v640.toNat]
def k0_off94 (k0_t1 : Fin k0_t1_loop.trips) : Fin 3 → Nat :=
  let c25_181 : Index := 25#32
  let c16_182 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v646 : Index := Scalar.indexCast v2
  ![25, 16, v646.toNat]
def k0_off95 (k0_t1 : Fin k0_t1_loop.trips) : Fin 3 → Nat :=
  let c26_183 : Index := 26#32
  let c16_184 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v652 : Index := Scalar.indexCast v2
  ![26, 16, v652.toNat]
def k0_off96 (k0_t1 : Fin k0_t1_loop.trips) : Fin 3 → Nat :=
  let c27_185 : Index := 27#32
  let c16_186 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v658 : Index := Scalar.indexCast v2
  ![27, 16, v658.toNat]
def k0_off97 (k0_t1 : Fin k0_t1_loop.trips) : Fin 3 → Nat :=
  let c28_187 : Index := 28#32
  let c16_188 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v664 : Index := Scalar.indexCast v2
  ![28, 16, v664.toNat]
def k0_off98 (k0_t1 : Fin k0_t1_loop.trips) : Fin 3 → Nat :=
  let c29_189 : Index := 29#32
  let c16_190 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v670 : Index := Scalar.indexCast v2
  ![29, 16, v670.toNat]
def k0_off99 (k0_t1 : Fin k0_t1_loop.trips) : Fin 3 → Nat :=
  let c30_191 : Index := 30#32
  let c16_192 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v676 : Index := Scalar.indexCast v2
  ![30, 16, v676.toNat]
def k0_off100 (k0_t1 : Fin k0_t1_loop.trips) : Fin 3 → Nat :=
  let c31_193 : Index := 31#32
  let c16_194 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v682 : Index := Scalar.indexCast v2
  ![31, 16, v682.toNat]
def k0_off101 (k0_t1 : Fin k0_t1_loop.trips) : Fin 3 → Nat :=
  let c32_195 : Index := 32#32
  let c16_196 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v688 : Index := Scalar.indexCast v2
  ![32, 16, v688.toNat]
def k0_off102 (k0_t1 : Fin k0_t1_loop.trips) : Fin 3 → Nat :=
  let c33_197 : Index := 33#32
  let c16_198 : Index := 16#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v694 : Index := Scalar.indexCast v2
  ![33, 16, v694.toNat]
def k0_off103 (k0_t1 : Fin k0_t1_loop.trips) : Fin 3 → Nat :=
  let c0_203 : Index := 0#32
  let c24_204 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v706 : Index := Scalar.indexCast v2
  ![0, 24, v706.toNat]
def k0_off104 (k0_t1 : Fin k0_t1_loop.trips) : Fin 3 → Nat :=
  let c1_205 : Index := 1#32
  let c24_206 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v709 : Index := Scalar.indexCast v2
  ![1, 24, v709.toNat]
def k0_off105 (k0_t1 : Fin k0_t1_loop.trips) : Fin 3 → Nat :=
  let c2_216 : Index := 2#32
  let c24_217 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v742 : Index := Scalar.indexCast v2
  ![2, 24, v742.toNat]
def k0_off106 (k0_t1 : Fin k0_t1_loop.trips) : Fin 3 → Nat :=
  let c3_218 : Index := 3#32
  let c24_219 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v748 : Index := Scalar.indexCast v2
  ![3, 24, v748.toNat]
def k0_off107 (k0_t1 : Fin k0_t1_loop.trips) : Fin 3 → Nat :=
  let c4_220 : Index := 4#32
  let c24_221 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v754 : Index := Scalar.indexCast v2
  ![4, 24, v754.toNat]
def k0_off108 (k0_t1 : Fin k0_t1_loop.trips) : Fin 3 → Nat :=
  let c5_222 : Index := 5#32
  let c24_223 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v760 : Index := Scalar.indexCast v2
  ![5, 24, v760.toNat]
def k0_off109 (k0_t1 : Fin k0_t1_loop.trips) : Fin 3 → Nat :=
  let c6_224 : Index := 6#32
  let c24_225 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v766 : Index := Scalar.indexCast v2
  ![6, 24, v766.toNat]
def k0_off110 (k0_t1 : Fin k0_t1_loop.trips) : Fin 3 → Nat :=
  let c7_226 : Index := 7#32
  let c24_227 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v772 : Index := Scalar.indexCast v2
  ![7, 24, v772.toNat]
def k0_off111 (k0_t1 : Fin k0_t1_loop.trips) : Fin 3 → Nat :=
  let c8_228 : Index := 8#32
  let c24_229 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v778 : Index := Scalar.indexCast v2
  ![8, 24, v778.toNat]
def k0_off112 (k0_t1 : Fin k0_t1_loop.trips) : Fin 3 → Nat :=
  let c9_230 : Index := 9#32
  let c24_231 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v784 : Index := Scalar.indexCast v2
  ![9, 24, v784.toNat]
def k0_off113 (k0_t1 : Fin k0_t1_loop.trips) : Fin 3 → Nat :=
  let c10_232 : Index := 10#32
  let c24_233 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v790 : Index := Scalar.indexCast v2
  ![10, 24, v790.toNat]
def k0_off114 (k0_t1 : Fin k0_t1_loop.trips) : Fin 3 → Nat :=
  let c11_234 : Index := 11#32
  let c24_235 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v796 : Index := Scalar.indexCast v2
  ![11, 24, v796.toNat]
def k0_off115 (k0_t1 : Fin k0_t1_loop.trips) : Fin 3 → Nat :=
  let c12_236 : Index := 12#32
  let c24_237 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v802 : Index := Scalar.indexCast v2
  ![12, 24, v802.toNat]
def k0_off116 (k0_t1 : Fin k0_t1_loop.trips) : Fin 3 → Nat :=
  let c13_238 : Index := 13#32
  let c24_239 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v808 : Index := Scalar.indexCast v2
  ![13, 24, v808.toNat]
def k0_off117 (k0_t1 : Fin k0_t1_loop.trips) : Fin 3 → Nat :=
  let c14_240 : Index := 14#32
  let c24_241 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v814 : Index := Scalar.indexCast v2
  ![14, 24, v814.toNat]
def k0_off118 (k0_t1 : Fin k0_t1_loop.trips) : Fin 3 → Nat :=
  let c15_242 : Index := 15#32
  let c24_243 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v820 : Index := Scalar.indexCast v2
  ![15, 24, v820.toNat]
def k0_off119 (k0_t1 : Fin k0_t1_loop.trips) : Fin 3 → Nat :=
  let c16_244 : Index := 16#32
  let c24_245 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v826 : Index := Scalar.indexCast v2
  ![16, 24, v826.toNat]
def k0_off120 (k0_t1 : Fin k0_t1_loop.trips) : Fin 3 → Nat :=
  let c17_246 : Index := 17#32
  let c24_247 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v832 : Index := Scalar.indexCast v2
  ![17, 24, v832.toNat]
def k0_off121 (k0_t1 : Fin k0_t1_loop.trips) : Fin 3 → Nat :=
  let c18_248 : Index := 18#32
  let c24_249 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v838 : Index := Scalar.indexCast v2
  ![18, 24, v838.toNat]
def k0_off122 (k0_t1 : Fin k0_t1_loop.trips) : Fin 3 → Nat :=
  let c19_250 : Index := 19#32
  let c24_251 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v844 : Index := Scalar.indexCast v2
  ![19, 24, v844.toNat]
def k0_off123 (k0_t1 : Fin k0_t1_loop.trips) : Fin 3 → Nat :=
  let c20_252 : Index := 20#32
  let c24_253 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v850 : Index := Scalar.indexCast v2
  ![20, 24, v850.toNat]
def k0_off124 (k0_t1 : Fin k0_t1_loop.trips) : Fin 3 → Nat :=
  let c21_254 : Index := 21#32
  let c24_255 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v856 : Index := Scalar.indexCast v2
  ![21, 24, v856.toNat]
def k0_off125 (k0_t1 : Fin k0_t1_loop.trips) : Fin 3 → Nat :=
  let c22_256 : Index := 22#32
  let c24_257 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v862 : Index := Scalar.indexCast v2
  ![22, 24, v862.toNat]
def k0_off126 (k0_t1 : Fin k0_t1_loop.trips) : Fin 3 → Nat :=
  let c23_258 : Index := 23#32
  let c24_259 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v868 : Index := Scalar.indexCast v2
  ![23, 24, v868.toNat]
def k0_off127 (k0_t1 : Fin k0_t1_loop.trips) : Fin 3 → Nat :=
  let c24_260 : Index := 24#32
  let c24_261 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v874 : Index := Scalar.indexCast v2
  ![24, 24, v874.toNat]
def k0_off128 (k0_t1 : Fin k0_t1_loop.trips) : Fin 3 → Nat :=
  let c25_262 : Index := 25#32
  let c24_263 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v880 : Index := Scalar.indexCast v2
  ![25, 24, v880.toNat]
def k0_off129 (k0_t1 : Fin k0_t1_loop.trips) : Fin 3 → Nat :=
  let c26_264 : Index := 26#32
  let c24_265 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v886 : Index := Scalar.indexCast v2
  ![26, 24, v886.toNat]
def k0_off130 (k0_t1 : Fin k0_t1_loop.trips) : Fin 3 → Nat :=
  let c27_266 : Index := 27#32
  let c24_267 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v892 : Index := Scalar.indexCast v2
  ![27, 24, v892.toNat]
def k0_off131 (k0_t1 : Fin k0_t1_loop.trips) : Fin 3 → Nat :=
  let c28_268 : Index := 28#32
  let c24_269 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v898 : Index := Scalar.indexCast v2
  ![28, 24, v898.toNat]
def k0_off132 (k0_t1 : Fin k0_t1_loop.trips) : Fin 3 → Nat :=
  let c29_270 : Index := 29#32
  let c24_271 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v904 : Index := Scalar.indexCast v2
  ![29, 24, v904.toNat]
def k0_off133 (k0_t1 : Fin k0_t1_loop.trips) : Fin 3 → Nat :=
  let c30_272 : Index := 30#32
  let c24_273 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v910 : Index := Scalar.indexCast v2
  ![30, 24, v910.toNat]
def k0_off134 (k0_t1 : Fin k0_t1_loop.trips) : Fin 3 → Nat :=
  let c31_274 : Index := 31#32
  let c24_275 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v916 : Index := Scalar.indexCast v2
  ![31, 24, v916.toNat]
def k0_off135 (k0_t1 : Fin k0_t1_loop.trips) : Fin 3 → Nat :=
  let c32_276 : Index := 32#32
  let c24_277 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v922 : Index := Scalar.indexCast v2
  ![32, 24, v922.toNat]
def k0_off136 (k0_t1 : Fin k0_t1_loop.trips) : Fin 3 → Nat :=
  let c33_278 : Index := 33#32
  let c24_279 : Index := 24#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v928 : Index := Scalar.indexCast v2
  ![33, 24, v928.toNat]
def k0_off137 (k0_t1 : Fin k0_t1_loop.trips) : Fin 3 → Nat :=
  let c0_284 : Index := 0#32
  let c32_285 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v940 : Index := Scalar.indexCast v2
  ![0, 32, v940.toNat]
def k0_off138 (k0_t1 : Fin k0_t1_loop.trips) : Fin 3 → Nat :=
  let c1_286 : Index := 1#32
  let c32_287 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v943 : Index := Scalar.indexCast v2
  ![1, 32, v943.toNat]
def k0_off139 (k0_t1 : Fin k0_t1_loop.trips) : Fin 3 → Nat :=
  let c2_297 : Index := 2#32
  let c32_298 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v976 : Index := Scalar.indexCast v2
  ![2, 32, v976.toNat]
def k0_off140 (k0_t1 : Fin k0_t1_loop.trips) : Fin 3 → Nat :=
  let c3_299 : Index := 3#32
  let c32_300 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v982 : Index := Scalar.indexCast v2
  ![3, 32, v982.toNat]
def k0_off141 (k0_t1 : Fin k0_t1_loop.trips) : Fin 3 → Nat :=
  let c4_301 : Index := 4#32
  let c32_302 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v988 : Index := Scalar.indexCast v2
  ![4, 32, v988.toNat]
def k0_off142 (k0_t1 : Fin k0_t1_loop.trips) : Fin 3 → Nat :=
  let c5_303 : Index := 5#32
  let c32_304 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v994 : Index := Scalar.indexCast v2
  ![5, 32, v994.toNat]
def k0_off143 (k0_t1 : Fin k0_t1_loop.trips) : Fin 3 → Nat :=
  let c6_305 : Index := 6#32
  let c32_306 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1000 : Index := Scalar.indexCast v2
  ![6, 32, v1000.toNat]
def k0_off144 (k0_t1 : Fin k0_t1_loop.trips) : Fin 3 → Nat :=
  let c7_307 : Index := 7#32
  let c32_308 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1006 : Index := Scalar.indexCast v2
  ![7, 32, v1006.toNat]
def k0_off145 (k0_t1 : Fin k0_t1_loop.trips) : Fin 3 → Nat :=
  let c8_309 : Index := 8#32
  let c32_310 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1012 : Index := Scalar.indexCast v2
  ![8, 32, v1012.toNat]
def k0_off146 (k0_t1 : Fin k0_t1_loop.trips) : Fin 3 → Nat :=
  let c9_311 : Index := 9#32
  let c32_312 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1018 : Index := Scalar.indexCast v2
  ![9, 32, v1018.toNat]
def k0_off147 (k0_t1 : Fin k0_t1_loop.trips) : Fin 3 → Nat :=
  let c10_313 : Index := 10#32
  let c32_314 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1024 : Index := Scalar.indexCast v2
  ![10, 32, v1024.toNat]
def k0_off148 (k0_t1 : Fin k0_t1_loop.trips) : Fin 3 → Nat :=
  let c11_315 : Index := 11#32
  let c32_316 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1030 : Index := Scalar.indexCast v2
  ![11, 32, v1030.toNat]
def k0_off149 (k0_t1 : Fin k0_t1_loop.trips) : Fin 3 → Nat :=
  let c12_317 : Index := 12#32
  let c32_318 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1036 : Index := Scalar.indexCast v2
  ![12, 32, v1036.toNat]
def k0_off150 (k0_t1 : Fin k0_t1_loop.trips) : Fin 3 → Nat :=
  let c13_319 : Index := 13#32
  let c32_320 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1042 : Index := Scalar.indexCast v2
  ![13, 32, v1042.toNat]
def k0_off151 (k0_t1 : Fin k0_t1_loop.trips) : Fin 3 → Nat :=
  let c14_321 : Index := 14#32
  let c32_322 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1048 : Index := Scalar.indexCast v2
  ![14, 32, v1048.toNat]
def k0_off152 (k0_t1 : Fin k0_t1_loop.trips) : Fin 3 → Nat :=
  let c15_323 : Index := 15#32
  let c32_324 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1054 : Index := Scalar.indexCast v2
  ![15, 32, v1054.toNat]
def k0_off153 (k0_t1 : Fin k0_t1_loop.trips) : Fin 3 → Nat :=
  let c16_325 : Index := 16#32
  let c32_326 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1060 : Index := Scalar.indexCast v2
  ![16, 32, v1060.toNat]
def k0_off154 (k0_t1 : Fin k0_t1_loop.trips) : Fin 3 → Nat :=
  let c17_327 : Index := 17#32
  let c32_328 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1066 : Index := Scalar.indexCast v2
  ![17, 32, v1066.toNat]
def k0_off155 (k0_t1 : Fin k0_t1_loop.trips) : Fin 3 → Nat :=
  let c18_329 : Index := 18#32
  let c32_330 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1072 : Index := Scalar.indexCast v2
  ![18, 32, v1072.toNat]
def k0_off156 (k0_t1 : Fin k0_t1_loop.trips) : Fin 3 → Nat :=
  let c19_331 : Index := 19#32
  let c32_332 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1078 : Index := Scalar.indexCast v2
  ![19, 32, v1078.toNat]
def k0_off157 (k0_t1 : Fin k0_t1_loop.trips) : Fin 3 → Nat :=
  let c20_333 : Index := 20#32
  let c32_334 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1084 : Index := Scalar.indexCast v2
  ![20, 32, v1084.toNat]
def k0_off158 (k0_t1 : Fin k0_t1_loop.trips) : Fin 3 → Nat :=
  let c21_335 : Index := 21#32
  let c32_336 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1090 : Index := Scalar.indexCast v2
  ![21, 32, v1090.toNat]
def k0_off159 (k0_t1 : Fin k0_t1_loop.trips) : Fin 3 → Nat :=
  let c22_337 : Index := 22#32
  let c32_338 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1096 : Index := Scalar.indexCast v2
  ![22, 32, v1096.toNat]
def k0_off160 (k0_t1 : Fin k0_t1_loop.trips) : Fin 3 → Nat :=
  let c23_339 : Index := 23#32
  let c32_340 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1102 : Index := Scalar.indexCast v2
  ![23, 32, v1102.toNat]
def k0_off161 (k0_t1 : Fin k0_t1_loop.trips) : Fin 3 → Nat :=
  let c24_341 : Index := 24#32
  let c32_342 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1108 : Index := Scalar.indexCast v2
  ![24, 32, v1108.toNat]
def k0_off162 (k0_t1 : Fin k0_t1_loop.trips) : Fin 3 → Nat :=
  let c25_343 : Index := 25#32
  let c32_344 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1114 : Index := Scalar.indexCast v2
  ![25, 32, v1114.toNat]
def k0_off163 (k0_t1 : Fin k0_t1_loop.trips) : Fin 3 → Nat :=
  let c26_345 : Index := 26#32
  let c32_346 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1120 : Index := Scalar.indexCast v2
  ![26, 32, v1120.toNat]
def k0_off164 (k0_t1 : Fin k0_t1_loop.trips) : Fin 3 → Nat :=
  let c27_347 : Index := 27#32
  let c32_348 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1126 : Index := Scalar.indexCast v2
  ![27, 32, v1126.toNat]
def k0_off165 (k0_t1 : Fin k0_t1_loop.trips) : Fin 3 → Nat :=
  let c28_349 : Index := 28#32
  let c32_350 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1132 : Index := Scalar.indexCast v2
  ![28, 32, v1132.toNat]
def k0_off166 (k0_t1 : Fin k0_t1_loop.trips) : Fin 3 → Nat :=
  let c29_351 : Index := 29#32
  let c32_352 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1138 : Index := Scalar.indexCast v2
  ![29, 32, v1138.toNat]
def k0_off167 (k0_t1 : Fin k0_t1_loop.trips) : Fin 3 → Nat :=
  let c30_353 : Index := 30#32
  let c32_354 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1144 : Index := Scalar.indexCast v2
  ![30, 32, v1144.toNat]
def k0_off168 (k0_t1 : Fin k0_t1_loop.trips) : Fin 3 → Nat :=
  let c31_355 : Index := 31#32
  let c32_356 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1150 : Index := Scalar.indexCast v2
  ![31, 32, v1150.toNat]
def k0_off169 (k0_t1 : Fin k0_t1_loop.trips) : Fin 3 → Nat :=
  let c32_357 : Index := 32#32
  let c32_358 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1156 : Index := Scalar.indexCast v2
  ![32, 32, v1156.toNat]
def k0_off170 (k0_t1 : Fin k0_t1_loop.trips) : Fin 3 → Nat :=
  let c33_359 : Index := 33#32
  let c32_360 : Index := 32#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1162 : Index := Scalar.indexCast v2
  ![33, 32, v1162.toNat]
def k0_off171 (k0_t1 : Fin k0_t1_loop.trips) : Fin 3 → Nat :=
  let c0_365 : Index := 0#32
  let c40 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1174 : Index := Scalar.indexCast v2
  ![0, 40, v1174.toNat]
def k0_off172 (k0_t1 : Fin k0_t1_loop.trips) : Fin 3 → Nat :=
  let c1_366 : Index := 1#32
  let c40_367 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1177 : Index := Scalar.indexCast v2
  ![1, 40, v1177.toNat]
def k0_off173 (k0_t1 : Fin k0_t1_loop.trips) : Fin 3 → Nat :=
  let c2_377 : Index := 2#32
  let c40_378 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1210 : Index := Scalar.indexCast v2
  ![2, 40, v1210.toNat]
def k0_off174 (k0_t1 : Fin k0_t1_loop.trips) : Fin 3 → Nat :=
  let c3_379 : Index := 3#32
  let c40_380 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1216 : Index := Scalar.indexCast v2
  ![3, 40, v1216.toNat]
def k0_off175 (k0_t1 : Fin k0_t1_loop.trips) : Fin 3 → Nat :=
  let c4_381 : Index := 4#32
  let c40_382 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1222 : Index := Scalar.indexCast v2
  ![4, 40, v1222.toNat]
def k0_off176 (k0_t1 : Fin k0_t1_loop.trips) : Fin 3 → Nat :=
  let c5_383 : Index := 5#32
  let c40_384 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1228 : Index := Scalar.indexCast v2
  ![5, 40, v1228.toNat]
def k0_off177 (k0_t1 : Fin k0_t1_loop.trips) : Fin 3 → Nat :=
  let c6_385 : Index := 6#32
  let c40_386 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1234 : Index := Scalar.indexCast v2
  ![6, 40, v1234.toNat]
def k0_off178 (k0_t1 : Fin k0_t1_loop.trips) : Fin 3 → Nat :=
  let c7_387 : Index := 7#32
  let c40_388 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1240 : Index := Scalar.indexCast v2
  ![7, 40, v1240.toNat]
def k0_off179 (k0_t1 : Fin k0_t1_loop.trips) : Fin 3 → Nat :=
  let c8_389 : Index := 8#32
  let c40_390 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1246 : Index := Scalar.indexCast v2
  ![8, 40, v1246.toNat]
def k0_off180 (k0_t1 : Fin k0_t1_loop.trips) : Fin 3 → Nat :=
  let c9_391 : Index := 9#32
  let c40_392 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1252 : Index := Scalar.indexCast v2
  ![9, 40, v1252.toNat]
def k0_off181 (k0_t1 : Fin k0_t1_loop.trips) : Fin 3 → Nat :=
  let c10_393 : Index := 10#32
  let c40_394 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1258 : Index := Scalar.indexCast v2
  ![10, 40, v1258.toNat]
def k0_off182 (k0_t1 : Fin k0_t1_loop.trips) : Fin 3 → Nat :=
  let c11_395 : Index := 11#32
  let c40_396 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1264 : Index := Scalar.indexCast v2
  ![11, 40, v1264.toNat]
def k0_off183 (k0_t1 : Fin k0_t1_loop.trips) : Fin 3 → Nat :=
  let c12_397 : Index := 12#32
  let c40_398 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1270 : Index := Scalar.indexCast v2
  ![12, 40, v1270.toNat]
def k0_off184 (k0_t1 : Fin k0_t1_loop.trips) : Fin 3 → Nat :=
  let c13_399 : Index := 13#32
  let c40_400 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1276 : Index := Scalar.indexCast v2
  ![13, 40, v1276.toNat]
def k0_off185 (k0_t1 : Fin k0_t1_loop.trips) : Fin 3 → Nat :=
  let c14_401 : Index := 14#32
  let c40_402 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1282 : Index := Scalar.indexCast v2
  ![14, 40, v1282.toNat]
def k0_off186 (k0_t1 : Fin k0_t1_loop.trips) : Fin 3 → Nat :=
  let c15_403 : Index := 15#32
  let c40_404 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1288 : Index := Scalar.indexCast v2
  ![15, 40, v1288.toNat]
def k0_off187 (k0_t1 : Fin k0_t1_loop.trips) : Fin 3 → Nat :=
  let c16_405 : Index := 16#32
  let c40_406 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1294 : Index := Scalar.indexCast v2
  ![16, 40, v1294.toNat]
def k0_off188 (k0_t1 : Fin k0_t1_loop.trips) : Fin 3 → Nat :=
  let c17_407 : Index := 17#32
  let c40_408 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1300 : Index := Scalar.indexCast v2
  ![17, 40, v1300.toNat]
def k0_off189 (k0_t1 : Fin k0_t1_loop.trips) : Fin 3 → Nat :=
  let c18_409 : Index := 18#32
  let c40_410 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1306 : Index := Scalar.indexCast v2
  ![18, 40, v1306.toNat]
def k0_off190 (k0_t1 : Fin k0_t1_loop.trips) : Fin 3 → Nat :=
  let c19_411 : Index := 19#32
  let c40_412 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1312 : Index := Scalar.indexCast v2
  ![19, 40, v1312.toNat]
def k0_off191 (k0_t1 : Fin k0_t1_loop.trips) : Fin 3 → Nat :=
  let c20_413 : Index := 20#32
  let c40_414 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1318 : Index := Scalar.indexCast v2
  ![20, 40, v1318.toNat]
def k0_off192 (k0_t1 : Fin k0_t1_loop.trips) : Fin 3 → Nat :=
  let c21_415 : Index := 21#32
  let c40_416 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1324 : Index := Scalar.indexCast v2
  ![21, 40, v1324.toNat]
def k0_off193 (k0_t1 : Fin k0_t1_loop.trips) : Fin 3 → Nat :=
  let c22_417 : Index := 22#32
  let c40_418 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1330 : Index := Scalar.indexCast v2
  ![22, 40, v1330.toNat]
def k0_off194 (k0_t1 : Fin k0_t1_loop.trips) : Fin 3 → Nat :=
  let c23_419 : Index := 23#32
  let c40_420 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1336 : Index := Scalar.indexCast v2
  ![23, 40, v1336.toNat]
def k0_off195 (k0_t1 : Fin k0_t1_loop.trips) : Fin 3 → Nat :=
  let c24_421 : Index := 24#32
  let c40_422 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1342 : Index := Scalar.indexCast v2
  ![24, 40, v1342.toNat]
def k0_off196 (k0_t1 : Fin k0_t1_loop.trips) : Fin 3 → Nat :=
  let c25_423 : Index := 25#32
  let c40_424 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1348 : Index := Scalar.indexCast v2
  ![25, 40, v1348.toNat]
def k0_off197 (k0_t1 : Fin k0_t1_loop.trips) : Fin 3 → Nat :=
  let c26_425 : Index := 26#32
  let c40_426 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1354 : Index := Scalar.indexCast v2
  ![26, 40, v1354.toNat]
def k0_off198 (k0_t1 : Fin k0_t1_loop.trips) : Fin 3 → Nat :=
  let c27_427 : Index := 27#32
  let c40_428 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1360 : Index := Scalar.indexCast v2
  ![27, 40, v1360.toNat]
def k0_off199 (k0_t1 : Fin k0_t1_loop.trips) : Fin 3 → Nat :=
  let c28_429 : Index := 28#32
  let c40_430 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1366 : Index := Scalar.indexCast v2
  ![28, 40, v1366.toNat]
def k0_off200 (k0_t1 : Fin k0_t1_loop.trips) : Fin 3 → Nat :=
  let c29_431 : Index := 29#32
  let c40_432 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1372 : Index := Scalar.indexCast v2
  ![29, 40, v1372.toNat]
def k0_off201 (k0_t1 : Fin k0_t1_loop.trips) : Fin 3 → Nat :=
  let c30_433 : Index := 30#32
  let c40_434 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1378 : Index := Scalar.indexCast v2
  ![30, 40, v1378.toNat]
def k0_off202 (k0_t1 : Fin k0_t1_loop.trips) : Fin 3 → Nat :=
  let c31_435 : Index := 31#32
  let c40_436 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1384 : Index := Scalar.indexCast v2
  ![31, 40, v1384.toNat]
def k0_off203 (k0_t1 : Fin k0_t1_loop.trips) : Fin 3 → Nat :=
  let c32_437 : Index := 32#32
  let c40_438 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1390 : Index := Scalar.indexCast v2
  ![32, 40, v1390.toNat]
def k0_off204 (k0_t1 : Fin k0_t1_loop.trips) : Fin 3 → Nat :=
  let c33_439 : Index := 33#32
  let c40_440 : Index := 40#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1396 : Index := Scalar.indexCast v2
  ![33, 40, v1396.toNat]
def k0_off205 (k0_t1 : Fin k0_t1_loop.trips) : Fin 3 → Nat :=
  let c0_445 : Index := 0#32
  let c48 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1408 : Index := Scalar.indexCast v2
  ![0, 48, v1408.toNat]
def k0_off206 (k0_t1 : Fin k0_t1_loop.trips) : Fin 3 → Nat :=
  let c1_446 : Index := 1#32
  let c48_447 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1411 : Index := Scalar.indexCast v2
  ![1, 48, v1411.toNat]
def k0_off207 (k0_t1 : Fin k0_t1_loop.trips) : Fin 3 → Nat :=
  let c2_457 : Index := 2#32
  let c48_458 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1444 : Index := Scalar.indexCast v2
  ![2, 48, v1444.toNat]
def k0_off208 (k0_t1 : Fin k0_t1_loop.trips) : Fin 3 → Nat :=
  let c3_459 : Index := 3#32
  let c48_460 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1450 : Index := Scalar.indexCast v2
  ![3, 48, v1450.toNat]
def k0_off209 (k0_t1 : Fin k0_t1_loop.trips) : Fin 3 → Nat :=
  let c4_461 : Index := 4#32
  let c48_462 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1456 : Index := Scalar.indexCast v2
  ![4, 48, v1456.toNat]
def k0_off210 (k0_t1 : Fin k0_t1_loop.trips) : Fin 3 → Nat :=
  let c5_463 : Index := 5#32
  let c48_464 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1462 : Index := Scalar.indexCast v2
  ![5, 48, v1462.toNat]
def k0_off211 (k0_t1 : Fin k0_t1_loop.trips) : Fin 3 → Nat :=
  let c6_465 : Index := 6#32
  let c48_466 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1468 : Index := Scalar.indexCast v2
  ![6, 48, v1468.toNat]
def k0_off212 (k0_t1 : Fin k0_t1_loop.trips) : Fin 3 → Nat :=
  let c7_467 : Index := 7#32
  let c48_468 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1474 : Index := Scalar.indexCast v2
  ![7, 48, v1474.toNat]
def k0_off213 (k0_t1 : Fin k0_t1_loop.trips) : Fin 3 → Nat :=
  let c8_469 : Index := 8#32
  let c48_470 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1480 : Index := Scalar.indexCast v2
  ![8, 48, v1480.toNat]
def k0_off214 (k0_t1 : Fin k0_t1_loop.trips) : Fin 3 → Nat :=
  let c9_471 : Index := 9#32
  let c48_472 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1486 : Index := Scalar.indexCast v2
  ![9, 48, v1486.toNat]
def k0_off215 (k0_t1 : Fin k0_t1_loop.trips) : Fin 3 → Nat :=
  let c10_473 : Index := 10#32
  let c48_474 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1492 : Index := Scalar.indexCast v2
  ![10, 48, v1492.toNat]
def k0_off216 (k0_t1 : Fin k0_t1_loop.trips) : Fin 3 → Nat :=
  let c11_475 : Index := 11#32
  let c48_476 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1498 : Index := Scalar.indexCast v2
  ![11, 48, v1498.toNat]
def k0_off217 (k0_t1 : Fin k0_t1_loop.trips) : Fin 3 → Nat :=
  let c12_477 : Index := 12#32
  let c48_478 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1504 : Index := Scalar.indexCast v2
  ![12, 48, v1504.toNat]
def k0_off218 (k0_t1 : Fin k0_t1_loop.trips) : Fin 3 → Nat :=
  let c13_479 : Index := 13#32
  let c48_480 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1510 : Index := Scalar.indexCast v2
  ![13, 48, v1510.toNat]
def k0_off219 (k0_t1 : Fin k0_t1_loop.trips) : Fin 3 → Nat :=
  let c14_481 : Index := 14#32
  let c48_482 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1516 : Index := Scalar.indexCast v2
  ![14, 48, v1516.toNat]
def k0_off220 (k0_t1 : Fin k0_t1_loop.trips) : Fin 3 → Nat :=
  let c15_483 : Index := 15#32
  let c48_484 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1522 : Index := Scalar.indexCast v2
  ![15, 48, v1522.toNat]
def k0_off221 (k0_t1 : Fin k0_t1_loop.trips) : Fin 3 → Nat :=
  let c16_485 : Index := 16#32
  let c48_486 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1528 : Index := Scalar.indexCast v2
  ![16, 48, v1528.toNat]
def k0_off222 (k0_t1 : Fin k0_t1_loop.trips) : Fin 3 → Nat :=
  let c17_487 : Index := 17#32
  let c48_488 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1534 : Index := Scalar.indexCast v2
  ![17, 48, v1534.toNat]
def k0_off223 (k0_t1 : Fin k0_t1_loop.trips) : Fin 3 → Nat :=
  let c18_489 : Index := 18#32
  let c48_490 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1540 : Index := Scalar.indexCast v2
  ![18, 48, v1540.toNat]
def k0_off224 (k0_t1 : Fin k0_t1_loop.trips) : Fin 3 → Nat :=
  let c19_491 : Index := 19#32
  let c48_492 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1546 : Index := Scalar.indexCast v2
  ![19, 48, v1546.toNat]
def k0_off225 (k0_t1 : Fin k0_t1_loop.trips) : Fin 3 → Nat :=
  let c20_493 : Index := 20#32
  let c48_494 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1552 : Index := Scalar.indexCast v2
  ![20, 48, v1552.toNat]
def k0_off226 (k0_t1 : Fin k0_t1_loop.trips) : Fin 3 → Nat :=
  let c21_495 : Index := 21#32
  let c48_496 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1558 : Index := Scalar.indexCast v2
  ![21, 48, v1558.toNat]
def k0_off227 (k0_t1 : Fin k0_t1_loop.trips) : Fin 3 → Nat :=
  let c22_497 : Index := 22#32
  let c48_498 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1564 : Index := Scalar.indexCast v2
  ![22, 48, v1564.toNat]
def k0_off228 (k0_t1 : Fin k0_t1_loop.trips) : Fin 3 → Nat :=
  let c23_499 : Index := 23#32
  let c48_500 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1570 : Index := Scalar.indexCast v2
  ![23, 48, v1570.toNat]
def k0_off229 (k0_t1 : Fin k0_t1_loop.trips) : Fin 3 → Nat :=
  let c24_501 : Index := 24#32
  let c48_502 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1576 : Index := Scalar.indexCast v2
  ![24, 48, v1576.toNat]
def k0_off230 (k0_t1 : Fin k0_t1_loop.trips) : Fin 3 → Nat :=
  let c25_503 : Index := 25#32
  let c48_504 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1582 : Index := Scalar.indexCast v2
  ![25, 48, v1582.toNat]
def k0_off231 (k0_t1 : Fin k0_t1_loop.trips) : Fin 3 → Nat :=
  let c26_505 : Index := 26#32
  let c48_506 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1588 : Index := Scalar.indexCast v2
  ![26, 48, v1588.toNat]
def k0_off232 (k0_t1 : Fin k0_t1_loop.trips) : Fin 3 → Nat :=
  let c27_507 : Index := 27#32
  let c48_508 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1594 : Index := Scalar.indexCast v2
  ![27, 48, v1594.toNat]
def k0_off233 (k0_t1 : Fin k0_t1_loop.trips) : Fin 3 → Nat :=
  let c28_509 : Index := 28#32
  let c48_510 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1600 : Index := Scalar.indexCast v2
  ![28, 48, v1600.toNat]
def k0_off234 (k0_t1 : Fin k0_t1_loop.trips) : Fin 3 → Nat :=
  let c29_511 : Index := 29#32
  let c48_512 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1606 : Index := Scalar.indexCast v2
  ![29, 48, v1606.toNat]
def k0_off235 (k0_t1 : Fin k0_t1_loop.trips) : Fin 3 → Nat :=
  let c30_513 : Index := 30#32
  let c48_514 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1612 : Index := Scalar.indexCast v2
  ![30, 48, v1612.toNat]
def k0_off236 (k0_t1 : Fin k0_t1_loop.trips) : Fin 3 → Nat :=
  let c31_515 : Index := 31#32
  let c48_516 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1618 : Index := Scalar.indexCast v2
  ![31, 48, v1618.toNat]
def k0_off237 (k0_t1 : Fin k0_t1_loop.trips) : Fin 3 → Nat :=
  let c32_517 : Index := 32#32
  let c48_518 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1624 : Index := Scalar.indexCast v2
  ![32, 48, v1624.toNat]
def k0_off238 (k0_t1 : Fin k0_t1_loop.trips) : Fin 3 → Nat :=
  let c33_519 : Index := 33#32
  let c48_520 : Index := 48#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1630 : Index := Scalar.indexCast v2
  ![33, 48, v1630.toNat]
def k0_off239 (k0_t1 : Fin k0_t1_loop.trips) : Fin 3 → Nat :=
  let c0_525 : Index := 0#32
  let c56 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1642 : Index := Scalar.indexCast v2
  ![0, 56, v1642.toNat]
def k0_off240 (k0_t1 : Fin k0_t1_loop.trips) : Fin 3 → Nat :=
  let c1_526 : Index := 1#32
  let c56_527 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1645 : Index := Scalar.indexCast v2
  ![1, 56, v1645.toNat]
def k0_off241 (k0_t1 : Fin k0_t1_loop.trips) : Fin 3 → Nat :=
  let c2_537 : Index := 2#32
  let c56_538 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1678 : Index := Scalar.indexCast v2
  ![2, 56, v1678.toNat]
def k0_off242 (k0_t1 : Fin k0_t1_loop.trips) : Fin 3 → Nat :=
  let c3_539 : Index := 3#32
  let c56_540 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1684 : Index := Scalar.indexCast v2
  ![3, 56, v1684.toNat]
def k0_off243 (k0_t1 : Fin k0_t1_loop.trips) : Fin 3 → Nat :=
  let c4_541 : Index := 4#32
  let c56_542 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1690 : Index := Scalar.indexCast v2
  ![4, 56, v1690.toNat]
def k0_off244 (k0_t1 : Fin k0_t1_loop.trips) : Fin 3 → Nat :=
  let c5_543 : Index := 5#32
  let c56_544 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1696 : Index := Scalar.indexCast v2
  ![5, 56, v1696.toNat]
def k0_off245 (k0_t1 : Fin k0_t1_loop.trips) : Fin 3 → Nat :=
  let c6_545 : Index := 6#32
  let c56_546 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1702 : Index := Scalar.indexCast v2
  ![6, 56, v1702.toNat]
def k0_off246 (k0_t1 : Fin k0_t1_loop.trips) : Fin 3 → Nat :=
  let c7_547 : Index := 7#32
  let c56_548 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1708 : Index := Scalar.indexCast v2
  ![7, 56, v1708.toNat]
def k0_off247 (k0_t1 : Fin k0_t1_loop.trips) : Fin 3 → Nat :=
  let c8_549 : Index := 8#32
  let c56_550 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1714 : Index := Scalar.indexCast v2
  ![8, 56, v1714.toNat]
def k0_off248 (k0_t1 : Fin k0_t1_loop.trips) : Fin 3 → Nat :=
  let c9_551 : Index := 9#32
  let c56_552 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1720 : Index := Scalar.indexCast v2
  ![9, 56, v1720.toNat]
def k0_off249 (k0_t1 : Fin k0_t1_loop.trips) : Fin 3 → Nat :=
  let c10_553 : Index := 10#32
  let c56_554 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1726 : Index := Scalar.indexCast v2
  ![10, 56, v1726.toNat]
def k0_off250 (k0_t1 : Fin k0_t1_loop.trips) : Fin 3 → Nat :=
  let c11_555 : Index := 11#32
  let c56_556 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1732 : Index := Scalar.indexCast v2
  ![11, 56, v1732.toNat]
def k0_off251 (k0_t1 : Fin k0_t1_loop.trips) : Fin 3 → Nat :=
  let c12_557 : Index := 12#32
  let c56_558 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1738 : Index := Scalar.indexCast v2
  ![12, 56, v1738.toNat]
def k0_off252 (k0_t1 : Fin k0_t1_loop.trips) : Fin 3 → Nat :=
  let c13_559 : Index := 13#32
  let c56_560 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1744 : Index := Scalar.indexCast v2
  ![13, 56, v1744.toNat]
def k0_off253 (k0_t1 : Fin k0_t1_loop.trips) : Fin 3 → Nat :=
  let c14_561 : Index := 14#32
  let c56_562 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1750 : Index := Scalar.indexCast v2
  ![14, 56, v1750.toNat]
def k0_off254 (k0_t1 : Fin k0_t1_loop.trips) : Fin 3 → Nat :=
  let c15_563 : Index := 15#32
  let c56_564 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1756 : Index := Scalar.indexCast v2
  ![15, 56, v1756.toNat]
def k0_off255 (k0_t1 : Fin k0_t1_loop.trips) : Fin 3 → Nat :=
  let c16_565 : Index := 16#32
  let c56_566 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1762 : Index := Scalar.indexCast v2
  ![16, 56, v1762.toNat]
def k0_off256 (k0_t1 : Fin k0_t1_loop.trips) : Fin 3 → Nat :=
  let c17_567 : Index := 17#32
  let c56_568 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1768 : Index := Scalar.indexCast v2
  ![17, 56, v1768.toNat]
def k0_off257 (k0_t1 : Fin k0_t1_loop.trips) : Fin 3 → Nat :=
  let c18_569 : Index := 18#32
  let c56_570 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1774 : Index := Scalar.indexCast v2
  ![18, 56, v1774.toNat]
def k0_off258 (k0_t1 : Fin k0_t1_loop.trips) : Fin 3 → Nat :=
  let c19_571 : Index := 19#32
  let c56_572 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1780 : Index := Scalar.indexCast v2
  ![19, 56, v1780.toNat]
def k0_off259 (k0_t1 : Fin k0_t1_loop.trips) : Fin 3 → Nat :=
  let c20_573 : Index := 20#32
  let c56_574 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1786 : Index := Scalar.indexCast v2
  ![20, 56, v1786.toNat]
def k0_off260 (k0_t1 : Fin k0_t1_loop.trips) : Fin 3 → Nat :=
  let c21_575 : Index := 21#32
  let c56_576 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1792 : Index := Scalar.indexCast v2
  ![21, 56, v1792.toNat]
def k0_off261 (k0_t1 : Fin k0_t1_loop.trips) : Fin 3 → Nat :=
  let c22_577 : Index := 22#32
  let c56_578 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1798 : Index := Scalar.indexCast v2
  ![22, 56, v1798.toNat]
def k0_off262 (k0_t1 : Fin k0_t1_loop.trips) : Fin 3 → Nat :=
  let c23_579 : Index := 23#32
  let c56_580 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1804 : Index := Scalar.indexCast v2
  ![23, 56, v1804.toNat]
def k0_off263 (k0_t1 : Fin k0_t1_loop.trips) : Fin 3 → Nat :=
  let c24_581 : Index := 24#32
  let c56_582 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1810 : Index := Scalar.indexCast v2
  ![24, 56, v1810.toNat]
def k0_off264 (k0_t1 : Fin k0_t1_loop.trips) : Fin 3 → Nat :=
  let c25_583 : Index := 25#32
  let c56_584 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1816 : Index := Scalar.indexCast v2
  ![25, 56, v1816.toNat]
def k0_off265 (k0_t1 : Fin k0_t1_loop.trips) : Fin 3 → Nat :=
  let c26_585 : Index := 26#32
  let c56_586 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1822 : Index := Scalar.indexCast v2
  ![26, 56, v1822.toNat]
def k0_off266 (k0_t1 : Fin k0_t1_loop.trips) : Fin 3 → Nat :=
  let c27_587 : Index := 27#32
  let c56_588 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1828 : Index := Scalar.indexCast v2
  ![27, 56, v1828.toNat]
def k0_off267 (k0_t1 : Fin k0_t1_loop.trips) : Fin 3 → Nat :=
  let c28_589 : Index := 28#32
  let c56_590 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1834 : Index := Scalar.indexCast v2
  ![28, 56, v1834.toNat]
def k0_off268 (k0_t1 : Fin k0_t1_loop.trips) : Fin 3 → Nat :=
  let c29_591 : Index := 29#32
  let c56_592 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1840 : Index := Scalar.indexCast v2
  ![29, 56, v1840.toNat]
def k0_off269 (k0_t1 : Fin k0_t1_loop.trips) : Fin 3 → Nat :=
  let c30_593 : Index := 30#32
  let c56_594 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1846 : Index := Scalar.indexCast v2
  ![30, 56, v1846.toNat]
def k0_off270 (k0_t1 : Fin k0_t1_loop.trips) : Fin 3 → Nat :=
  let c31_595 : Index := 31#32
  let c56_596 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1852 : Index := Scalar.indexCast v2
  ![31, 56, v1852.toNat]
def k0_off271 (k0_t1 : Fin k0_t1_loop.trips) : Fin 3 → Nat :=
  let c32_597 : Index := 32#32
  let c56_598 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1858 : Index := Scalar.indexCast v2
  ![32, 56, v1858.toNat]
def k0_off272 (k0_t1 : Fin k0_t1_loop.trips) : Fin 3 → Nat :=
  let c33_599 : Index := 33#32
  let c56_600 : Index := 56#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1864 : Index := Scalar.indexCast v2
  ![33, 56, v1864.toNat]
def k0_off273 (k0_t1 : Fin k0_t1_loop.trips) : Fin 3 → Nat :=
  let c0_605 : Index := 0#32
  let c64 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1876 : Index := Scalar.indexCast v2
  ![0, 64, v1876.toNat]
def k0_off274 (k0_t1 : Fin k0_t1_loop.trips) : Fin 3 → Nat :=
  let c1_606 : Index := 1#32
  let c64_607 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1879 : Index := Scalar.indexCast v2
  ![1, 64, v1879.toNat]
def k0_off275 (k0_t1 : Fin k0_t1_loop.trips) : Fin 3 → Nat :=
  let c2_617 : Index := 2#32
  let c64_618 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1912 : Index := Scalar.indexCast v2
  ![2, 64, v1912.toNat]
def k0_off276 (k0_t1 : Fin k0_t1_loop.trips) : Fin 3 → Nat :=
  let c3_619 : Index := 3#32
  let c64_620 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1918 : Index := Scalar.indexCast v2
  ![3, 64, v1918.toNat]
def k0_off277 (k0_t1 : Fin k0_t1_loop.trips) : Fin 3 → Nat :=
  let c4_621 : Index := 4#32
  let c64_622 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1924 : Index := Scalar.indexCast v2
  ![4, 64, v1924.toNat]
def k0_off278 (k0_t1 : Fin k0_t1_loop.trips) : Fin 3 → Nat :=
  let c5_623 : Index := 5#32
  let c64_624 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1930 : Index := Scalar.indexCast v2
  ![5, 64, v1930.toNat]
def k0_off279 (k0_t1 : Fin k0_t1_loop.trips) : Fin 3 → Nat :=
  let c6_625 : Index := 6#32
  let c64_626 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1936 : Index := Scalar.indexCast v2
  ![6, 64, v1936.toNat]
def k0_off280 (k0_t1 : Fin k0_t1_loop.trips) : Fin 3 → Nat :=
  let c7_627 : Index := 7#32
  let c64_628 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1942 : Index := Scalar.indexCast v2
  ![7, 64, v1942.toNat]
def k0_off281 (k0_t1 : Fin k0_t1_loop.trips) : Fin 3 → Nat :=
  let c8_629 : Index := 8#32
  let c64_630 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1948 : Index := Scalar.indexCast v2
  ![8, 64, v1948.toNat]
def k0_off282 (k0_t1 : Fin k0_t1_loop.trips) : Fin 3 → Nat :=
  let c9_631 : Index := 9#32
  let c64_632 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1954 : Index := Scalar.indexCast v2
  ![9, 64, v1954.toNat]
def k0_off283 (k0_t1 : Fin k0_t1_loop.trips) : Fin 3 → Nat :=
  let c10_633 : Index := 10#32
  let c64_634 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1960 : Index := Scalar.indexCast v2
  ![10, 64, v1960.toNat]
def k0_off284 (k0_t1 : Fin k0_t1_loop.trips) : Fin 3 → Nat :=
  let c11_635 : Index := 11#32
  let c64_636 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1966 : Index := Scalar.indexCast v2
  ![11, 64, v1966.toNat]
def k0_off285 (k0_t1 : Fin k0_t1_loop.trips) : Fin 3 → Nat :=
  let c12_637 : Index := 12#32
  let c64_638 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1972 : Index := Scalar.indexCast v2
  ![12, 64, v1972.toNat]
def k0_off286 (k0_t1 : Fin k0_t1_loop.trips) : Fin 3 → Nat :=
  let c13_639 : Index := 13#32
  let c64_640 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1978 : Index := Scalar.indexCast v2
  ![13, 64, v1978.toNat]
def k0_off287 (k0_t1 : Fin k0_t1_loop.trips) : Fin 3 → Nat :=
  let c14_641 : Index := 14#32
  let c64_642 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1984 : Index := Scalar.indexCast v2
  ![14, 64, v1984.toNat]
def k0_off288 (k0_t1 : Fin k0_t1_loop.trips) : Fin 3 → Nat :=
  let c15_643 : Index := 15#32
  let c64_644 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1990 : Index := Scalar.indexCast v2
  ![15, 64, v1990.toNat]
def k0_off289 (k0_t1 : Fin k0_t1_loop.trips) : Fin 3 → Nat :=
  let c16_645 : Index := 16#32
  let c64_646 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v1996 : Index := Scalar.indexCast v2
  ![16, 64, v1996.toNat]
def k0_off290 (k0_t1 : Fin k0_t1_loop.trips) : Fin 3 → Nat :=
  let c17_647 : Index := 17#32
  let c64_648 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2002 : Index := Scalar.indexCast v2
  ![17, 64, v2002.toNat]
def k0_off291 (k0_t1 : Fin k0_t1_loop.trips) : Fin 3 → Nat :=
  let c18_649 : Index := 18#32
  let c64_650 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2008 : Index := Scalar.indexCast v2
  ![18, 64, v2008.toNat]
def k0_off292 (k0_t1 : Fin k0_t1_loop.trips) : Fin 3 → Nat :=
  let c19_651 : Index := 19#32
  let c64_652 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2014 : Index := Scalar.indexCast v2
  ![19, 64, v2014.toNat]
def k0_off293 (k0_t1 : Fin k0_t1_loop.trips) : Fin 3 → Nat :=
  let c20_653 : Index := 20#32
  let c64_654 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2020 : Index := Scalar.indexCast v2
  ![20, 64, v2020.toNat]
def k0_off294 (k0_t1 : Fin k0_t1_loop.trips) : Fin 3 → Nat :=
  let c21_655 : Index := 21#32
  let c64_656 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2026 : Index := Scalar.indexCast v2
  ![21, 64, v2026.toNat]
def k0_off295 (k0_t1 : Fin k0_t1_loop.trips) : Fin 3 → Nat :=
  let c22_657 : Index := 22#32
  let c64_658 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2032 : Index := Scalar.indexCast v2
  ![22, 64, v2032.toNat]
def k0_off296 (k0_t1 : Fin k0_t1_loop.trips) : Fin 3 → Nat :=
  let c23_659 : Index := 23#32
  let c64_660 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2038 : Index := Scalar.indexCast v2
  ![23, 64, v2038.toNat]
def k0_off297 (k0_t1 : Fin k0_t1_loop.trips) : Fin 3 → Nat :=
  let c24_661 : Index := 24#32
  let c64_662 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2044 : Index := Scalar.indexCast v2
  ![24, 64, v2044.toNat]
def k0_off298 (k0_t1 : Fin k0_t1_loop.trips) : Fin 3 → Nat :=
  let c25_663 : Index := 25#32
  let c64_664 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2050 : Index := Scalar.indexCast v2
  ![25, 64, v2050.toNat]
def k0_off299 (k0_t1 : Fin k0_t1_loop.trips) : Fin 3 → Nat :=
  let c26_665 : Index := 26#32
  let c64_666 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2056 : Index := Scalar.indexCast v2
  ![26, 64, v2056.toNat]
def k0_off300 (k0_t1 : Fin k0_t1_loop.trips) : Fin 3 → Nat :=
  let c27_667 : Index := 27#32
  let c64_668 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2062 : Index := Scalar.indexCast v2
  ![27, 64, v2062.toNat]
def k0_off301 (k0_t1 : Fin k0_t1_loop.trips) : Fin 3 → Nat :=
  let c28_669 : Index := 28#32
  let c64_670 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2068 : Index := Scalar.indexCast v2
  ![28, 64, v2068.toNat]
def k0_off302 (k0_t1 : Fin k0_t1_loop.trips) : Fin 3 → Nat :=
  let c29_671 : Index := 29#32
  let c64_672 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2074 : Index := Scalar.indexCast v2
  ![29, 64, v2074.toNat]
def k0_off303 (k0_t1 : Fin k0_t1_loop.trips) : Fin 3 → Nat :=
  let c30_673 : Index := 30#32
  let c64_674 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2080 : Index := Scalar.indexCast v2
  ![30, 64, v2080.toNat]
def k0_off304 (k0_t1 : Fin k0_t1_loop.trips) : Fin 3 → Nat :=
  let c31_675 : Index := 31#32
  let c64_676 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2086 : Index := Scalar.indexCast v2
  ![31, 64, v2086.toNat]
def k0_off305 (k0_t1 : Fin k0_t1_loop.trips) : Fin 3 → Nat :=
  let c32_677 : Index := 32#32
  let c64_678 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2092 : Index := Scalar.indexCast v2
  ![32, 64, v2092.toNat]
def k0_off306 (k0_t1 : Fin k0_t1_loop.trips) : Fin 3 → Nat :=
  let c33_679 : Index := 33#32
  let c64_680 : Index := 64#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2098 : Index := Scalar.indexCast v2
  ![33, 64, v2098.toNat]
def k0_off307 (k0_t1 : Fin k0_t1_loop.trips) : Fin 3 → Nat :=
  let c0_685 : Index := 0#32
  let c72 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2110 : Index := Scalar.indexCast v2
  ![0, 72, v2110.toNat]
def k0_off308 (k0_t1 : Fin k0_t1_loop.trips) : Fin 3 → Nat :=
  let c1_686 : Index := 1#32
  let c72_687 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2113 : Index := Scalar.indexCast v2
  ![1, 72, v2113.toNat]
def k0_off309 (k0_t1 : Fin k0_t1_loop.trips) : Fin 3 → Nat :=
  let c2_697 : Index := 2#32
  let c72_698 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2146 : Index := Scalar.indexCast v2
  ![2, 72, v2146.toNat]
def k0_off310 (k0_t1 : Fin k0_t1_loop.trips) : Fin 3 → Nat :=
  let c3_699 : Index := 3#32
  let c72_700 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2152 : Index := Scalar.indexCast v2
  ![3, 72, v2152.toNat]
def k0_off311 (k0_t1 : Fin k0_t1_loop.trips) : Fin 3 → Nat :=
  let c4_701 : Index := 4#32
  let c72_702 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2158 : Index := Scalar.indexCast v2
  ![4, 72, v2158.toNat]
def k0_off312 (k0_t1 : Fin k0_t1_loop.trips) : Fin 3 → Nat :=
  let c5_703 : Index := 5#32
  let c72_704 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2164 : Index := Scalar.indexCast v2
  ![5, 72, v2164.toNat]
def k0_off313 (k0_t1 : Fin k0_t1_loop.trips) : Fin 3 → Nat :=
  let c6_705 : Index := 6#32
  let c72_706 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2170 : Index := Scalar.indexCast v2
  ![6, 72, v2170.toNat]
def k0_off314 (k0_t1 : Fin k0_t1_loop.trips) : Fin 3 → Nat :=
  let c7_707 : Index := 7#32
  let c72_708 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2176 : Index := Scalar.indexCast v2
  ![7, 72, v2176.toNat]
def k0_off315 (k0_t1 : Fin k0_t1_loop.trips) : Fin 3 → Nat :=
  let c8_709 : Index := 8#32
  let c72_710 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2182 : Index := Scalar.indexCast v2
  ![8, 72, v2182.toNat]
def k0_off316 (k0_t1 : Fin k0_t1_loop.trips) : Fin 3 → Nat :=
  let c9_711 : Index := 9#32
  let c72_712 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2188 : Index := Scalar.indexCast v2
  ![9, 72, v2188.toNat]
def k0_off317 (k0_t1 : Fin k0_t1_loop.trips) : Fin 3 → Nat :=
  let c10_713 : Index := 10#32
  let c72_714 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2194 : Index := Scalar.indexCast v2
  ![10, 72, v2194.toNat]
def k0_off318 (k0_t1 : Fin k0_t1_loop.trips) : Fin 3 → Nat :=
  let c11_715 : Index := 11#32
  let c72_716 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2200 : Index := Scalar.indexCast v2
  ![11, 72, v2200.toNat]
def k0_off319 (k0_t1 : Fin k0_t1_loop.trips) : Fin 3 → Nat :=
  let c12_717 : Index := 12#32
  let c72_718 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2206 : Index := Scalar.indexCast v2
  ![12, 72, v2206.toNat]
def k0_off320 (k0_t1 : Fin k0_t1_loop.trips) : Fin 3 → Nat :=
  let c13_719 : Index := 13#32
  let c72_720 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2212 : Index := Scalar.indexCast v2
  ![13, 72, v2212.toNat]
def k0_off321 (k0_t1 : Fin k0_t1_loop.trips) : Fin 3 → Nat :=
  let c14_721 : Index := 14#32
  let c72_722 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2218 : Index := Scalar.indexCast v2
  ![14, 72, v2218.toNat]
def k0_off322 (k0_t1 : Fin k0_t1_loop.trips) : Fin 3 → Nat :=
  let c15_723 : Index := 15#32
  let c72_724 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2224 : Index := Scalar.indexCast v2
  ![15, 72, v2224.toNat]
def k0_off323 (k0_t1 : Fin k0_t1_loop.trips) : Fin 3 → Nat :=
  let c16_725 : Index := 16#32
  let c72_726 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2230 : Index := Scalar.indexCast v2
  ![16, 72, v2230.toNat]
def k0_off324 (k0_t1 : Fin k0_t1_loop.trips) : Fin 3 → Nat :=
  let c17_727 : Index := 17#32
  let c72_728 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2236 : Index := Scalar.indexCast v2
  ![17, 72, v2236.toNat]
def k0_off325 (k0_t1 : Fin k0_t1_loop.trips) : Fin 3 → Nat :=
  let c18_729 : Index := 18#32
  let c72_730 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2242 : Index := Scalar.indexCast v2
  ![18, 72, v2242.toNat]
def k0_off326 (k0_t1 : Fin k0_t1_loop.trips) : Fin 3 → Nat :=
  let c19_731 : Index := 19#32
  let c72_732 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2248 : Index := Scalar.indexCast v2
  ![19, 72, v2248.toNat]
def k0_off327 (k0_t1 : Fin k0_t1_loop.trips) : Fin 3 → Nat :=
  let c20_733 : Index := 20#32
  let c72_734 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2254 : Index := Scalar.indexCast v2
  ![20, 72, v2254.toNat]
def k0_off328 (k0_t1 : Fin k0_t1_loop.trips) : Fin 3 → Nat :=
  let c21_735 : Index := 21#32
  let c72_736 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2260 : Index := Scalar.indexCast v2
  ![21, 72, v2260.toNat]
def k0_off329 (k0_t1 : Fin k0_t1_loop.trips) : Fin 3 → Nat :=
  let c22_737 : Index := 22#32
  let c72_738 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2266 : Index := Scalar.indexCast v2
  ![22, 72, v2266.toNat]
def k0_off330 (k0_t1 : Fin k0_t1_loop.trips) : Fin 3 → Nat :=
  let c23_739 : Index := 23#32
  let c72_740 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2272 : Index := Scalar.indexCast v2
  ![23, 72, v2272.toNat]
def k0_off331 (k0_t1 : Fin k0_t1_loop.trips) : Fin 3 → Nat :=
  let c24_741 : Index := 24#32
  let c72_742 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2278 : Index := Scalar.indexCast v2
  ![24, 72, v2278.toNat]
def k0_off332 (k0_t1 : Fin k0_t1_loop.trips) : Fin 3 → Nat :=
  let c25_743 : Index := 25#32
  let c72_744 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2284 : Index := Scalar.indexCast v2
  ![25, 72, v2284.toNat]
def k0_off333 (k0_t1 : Fin k0_t1_loop.trips) : Fin 3 → Nat :=
  let c26_745 : Index := 26#32
  let c72_746 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2290 : Index := Scalar.indexCast v2
  ![26, 72, v2290.toNat]
def k0_off334 (k0_t1 : Fin k0_t1_loop.trips) : Fin 3 → Nat :=
  let c27_747 : Index := 27#32
  let c72_748 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2296 : Index := Scalar.indexCast v2
  ![27, 72, v2296.toNat]
def k0_off335 (k0_t1 : Fin k0_t1_loop.trips) : Fin 3 → Nat :=
  let c28_749 : Index := 28#32
  let c72_750 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2302 : Index := Scalar.indexCast v2
  ![28, 72, v2302.toNat]
def k0_off336 (k0_t1 : Fin k0_t1_loop.trips) : Fin 3 → Nat :=
  let c29_751 : Index := 29#32
  let c72_752 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2308 : Index := Scalar.indexCast v2
  ![29, 72, v2308.toNat]
def k0_off337 (k0_t1 : Fin k0_t1_loop.trips) : Fin 3 → Nat :=
  let c30_753 : Index := 30#32
  let c72_754 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2314 : Index := Scalar.indexCast v2
  ![30, 72, v2314.toNat]
def k0_off338 (k0_t1 : Fin k0_t1_loop.trips) : Fin 3 → Nat :=
  let c31_755 : Index := 31#32
  let c72_756 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2320 : Index := Scalar.indexCast v2
  ![31, 72, v2320.toNat]
def k0_off339 (k0_t1 : Fin k0_t1_loop.trips) : Fin 3 → Nat :=
  let c32_757 : Index := 32#32
  let c72_758 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2326 : Index := Scalar.indexCast v2
  ![32, 72, v2326.toNat]
def k0_off340 (k0_t1 : Fin k0_t1_loop.trips) : Fin 3 → Nat :=
  let c33_759 : Index := 33#32
  let c72_760 : Index := 72#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2332 : Index := Scalar.indexCast v2
  ![33, 72, v2332.toNat]
def k0_off341 (k0_t1 : Fin k0_t1_loop.trips) : Fin 3 → Nat :=
  let c0_765 : Index := 0#32
  let c80 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2344 : Index := Scalar.indexCast v2
  ![0, 80, v2344.toNat]
def k0_off342 (k0_t1 : Fin k0_t1_loop.trips) : Fin 3 → Nat :=
  let c1_766 : Index := 1#32
  let c80_767 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2347 : Index := Scalar.indexCast v2
  ![1, 80, v2347.toNat]
def k0_off343 (k0_t1 : Fin k0_t1_loop.trips) : Fin 3 → Nat :=
  let c2_777 : Index := 2#32
  let c80_778 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2380 : Index := Scalar.indexCast v2
  ![2, 80, v2380.toNat]
def k0_off344 (k0_t1 : Fin k0_t1_loop.trips) : Fin 3 → Nat :=
  let c3_779 : Index := 3#32
  let c80_780 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2386 : Index := Scalar.indexCast v2
  ![3, 80, v2386.toNat]
def k0_off345 (k0_t1 : Fin k0_t1_loop.trips) : Fin 3 → Nat :=
  let c4_781 : Index := 4#32
  let c80_782 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2392 : Index := Scalar.indexCast v2
  ![4, 80, v2392.toNat]
def k0_off346 (k0_t1 : Fin k0_t1_loop.trips) : Fin 3 → Nat :=
  let c5_783 : Index := 5#32
  let c80_784 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2398 : Index := Scalar.indexCast v2
  ![5, 80, v2398.toNat]
def k0_off347 (k0_t1 : Fin k0_t1_loop.trips) : Fin 3 → Nat :=
  let c6_785 : Index := 6#32
  let c80_786 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2404 : Index := Scalar.indexCast v2
  ![6, 80, v2404.toNat]
def k0_off348 (k0_t1 : Fin k0_t1_loop.trips) : Fin 3 → Nat :=
  let c7_787 : Index := 7#32
  let c80_788 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2410 : Index := Scalar.indexCast v2
  ![7, 80, v2410.toNat]
def k0_off349 (k0_t1 : Fin k0_t1_loop.trips) : Fin 3 → Nat :=
  let c8_789 : Index := 8#32
  let c80_790 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2416 : Index := Scalar.indexCast v2
  ![8, 80, v2416.toNat]
def k0_off350 (k0_t1 : Fin k0_t1_loop.trips) : Fin 3 → Nat :=
  let c9_791 : Index := 9#32
  let c80_792 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2422 : Index := Scalar.indexCast v2
  ![9, 80, v2422.toNat]
def k0_off351 (k0_t1 : Fin k0_t1_loop.trips) : Fin 3 → Nat :=
  let c10_793 : Index := 10#32
  let c80_794 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2428 : Index := Scalar.indexCast v2
  ![10, 80, v2428.toNat]
def k0_off352 (k0_t1 : Fin k0_t1_loop.trips) : Fin 3 → Nat :=
  let c11_795 : Index := 11#32
  let c80_796 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2434 : Index := Scalar.indexCast v2
  ![11, 80, v2434.toNat]
def k0_off353 (k0_t1 : Fin k0_t1_loop.trips) : Fin 3 → Nat :=
  let c12_797 : Index := 12#32
  let c80_798 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2440 : Index := Scalar.indexCast v2
  ![12, 80, v2440.toNat]
def k0_off354 (k0_t1 : Fin k0_t1_loop.trips) : Fin 3 → Nat :=
  let c13_799 : Index := 13#32
  let c80_800 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2446 : Index := Scalar.indexCast v2
  ![13, 80, v2446.toNat]
def k0_off355 (k0_t1 : Fin k0_t1_loop.trips) : Fin 3 → Nat :=
  let c14_801 : Index := 14#32
  let c80_802 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2452 : Index := Scalar.indexCast v2
  ![14, 80, v2452.toNat]
def k0_off356 (k0_t1 : Fin k0_t1_loop.trips) : Fin 3 → Nat :=
  let c15_803 : Index := 15#32
  let c80_804 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2458 : Index := Scalar.indexCast v2
  ![15, 80, v2458.toNat]
def k0_off357 (k0_t1 : Fin k0_t1_loop.trips) : Fin 3 → Nat :=
  let c16_805 : Index := 16#32
  let c80_806 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2464 : Index := Scalar.indexCast v2
  ![16, 80, v2464.toNat]
def k0_off358 (k0_t1 : Fin k0_t1_loop.trips) : Fin 3 → Nat :=
  let c17_807 : Index := 17#32
  let c80_808 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2470 : Index := Scalar.indexCast v2
  ![17, 80, v2470.toNat]
def k0_off359 (k0_t1 : Fin k0_t1_loop.trips) : Fin 3 → Nat :=
  let c18_809 : Index := 18#32
  let c80_810 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2476 : Index := Scalar.indexCast v2
  ![18, 80, v2476.toNat]
def k0_off360 (k0_t1 : Fin k0_t1_loop.trips) : Fin 3 → Nat :=
  let c19_811 : Index := 19#32
  let c80_812 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2482 : Index := Scalar.indexCast v2
  ![19, 80, v2482.toNat]
def k0_off361 (k0_t1 : Fin k0_t1_loop.trips) : Fin 3 → Nat :=
  let c20_813 : Index := 20#32
  let c80_814 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2488 : Index := Scalar.indexCast v2
  ![20, 80, v2488.toNat]
def k0_off362 (k0_t1 : Fin k0_t1_loop.trips) : Fin 3 → Nat :=
  let c21_815 : Index := 21#32
  let c80_816 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2494 : Index := Scalar.indexCast v2
  ![21, 80, v2494.toNat]
def k0_off363 (k0_t1 : Fin k0_t1_loop.trips) : Fin 3 → Nat :=
  let c22_817 : Index := 22#32
  let c80_818 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2500 : Index := Scalar.indexCast v2
  ![22, 80, v2500.toNat]
def k0_off364 (k0_t1 : Fin k0_t1_loop.trips) : Fin 3 → Nat :=
  let c23_819 : Index := 23#32
  let c80_820 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2506 : Index := Scalar.indexCast v2
  ![23, 80, v2506.toNat]
def k0_off365 (k0_t1 : Fin k0_t1_loop.trips) : Fin 3 → Nat :=
  let c24_821 : Index := 24#32
  let c80_822 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2512 : Index := Scalar.indexCast v2
  ![24, 80, v2512.toNat]
def k0_off366 (k0_t1 : Fin k0_t1_loop.trips) : Fin 3 → Nat :=
  let c25_823 : Index := 25#32
  let c80_824 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2518 : Index := Scalar.indexCast v2
  ![25, 80, v2518.toNat]
def k0_off367 (k0_t1 : Fin k0_t1_loop.trips) : Fin 3 → Nat :=
  let c26_825 : Index := 26#32
  let c80_826 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2524 : Index := Scalar.indexCast v2
  ![26, 80, v2524.toNat]
def k0_off368 (k0_t1 : Fin k0_t1_loop.trips) : Fin 3 → Nat :=
  let c27_827 : Index := 27#32
  let c80_828 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2530 : Index := Scalar.indexCast v2
  ![27, 80, v2530.toNat]
def k0_off369 (k0_t1 : Fin k0_t1_loop.trips) : Fin 3 → Nat :=
  let c28_829 : Index := 28#32
  let c80_830 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2536 : Index := Scalar.indexCast v2
  ![28, 80, v2536.toNat]
def k0_off370 (k0_t1 : Fin k0_t1_loop.trips) : Fin 3 → Nat :=
  let c29_831 : Index := 29#32
  let c80_832 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2542 : Index := Scalar.indexCast v2
  ![29, 80, v2542.toNat]
def k0_off371 (k0_t1 : Fin k0_t1_loop.trips) : Fin 3 → Nat :=
  let c30_833 : Index := 30#32
  let c80_834 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2548 : Index := Scalar.indexCast v2
  ![30, 80, v2548.toNat]
def k0_off372 (k0_t1 : Fin k0_t1_loop.trips) : Fin 3 → Nat :=
  let c31_835 : Index := 31#32
  let c80_836 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2554 : Index := Scalar.indexCast v2
  ![31, 80, v2554.toNat]
def k0_off373 (k0_t1 : Fin k0_t1_loop.trips) : Fin 3 → Nat :=
  let c32_837 : Index := 32#32
  let c80_838 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2560 : Index := Scalar.indexCast v2
  ![32, 80, v2560.toNat]
def k0_off374 (k0_t1 : Fin k0_t1_loop.trips) : Fin 3 → Nat :=
  let c33_839 : Index := 33#32
  let c80_840 : Index := 80#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2566 : Index := Scalar.indexCast v2
  ![33, 80, v2566.toNat]
def k0_off375 (k0_t1 : Fin k0_t1_loop.trips) : Fin 3 → Nat :=
  let c0_845 : Index := 0#32
  let c88 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2578 : Index := Scalar.indexCast v2
  ![0, 88, v2578.toNat]
def k0_off376 (k0_t1 : Fin k0_t1_loop.trips) : Fin 3 → Nat :=
  let c1_846 : Index := 1#32
  let c88_847 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2581 : Index := Scalar.indexCast v2
  ![1, 88, v2581.toNat]
def k0_off377 (k0_t1 : Fin k0_t1_loop.trips) : Fin 3 → Nat :=
  let c2_857 : Index := 2#32
  let c88_858 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2614 : Index := Scalar.indexCast v2
  ![2, 88, v2614.toNat]
def k0_off378 (k0_t1 : Fin k0_t1_loop.trips) : Fin 3 → Nat :=
  let c3_859 : Index := 3#32
  let c88_860 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2620 : Index := Scalar.indexCast v2
  ![3, 88, v2620.toNat]
def k0_off379 (k0_t1 : Fin k0_t1_loop.trips) : Fin 3 → Nat :=
  let c4_861 : Index := 4#32
  let c88_862 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2626 : Index := Scalar.indexCast v2
  ![4, 88, v2626.toNat]
def k0_off380 (k0_t1 : Fin k0_t1_loop.trips) : Fin 3 → Nat :=
  let c5_863 : Index := 5#32
  let c88_864 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2632 : Index := Scalar.indexCast v2
  ![5, 88, v2632.toNat]
def k0_off381 (k0_t1 : Fin k0_t1_loop.trips) : Fin 3 → Nat :=
  let c6_865 : Index := 6#32
  let c88_866 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2638 : Index := Scalar.indexCast v2
  ![6, 88, v2638.toNat]
def k0_off382 (k0_t1 : Fin k0_t1_loop.trips) : Fin 3 → Nat :=
  let c7_867 : Index := 7#32
  let c88_868 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2644 : Index := Scalar.indexCast v2
  ![7, 88, v2644.toNat]
def k0_off383 (k0_t1 : Fin k0_t1_loop.trips) : Fin 3 → Nat :=
  let c8_869 : Index := 8#32
  let c88_870 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2650 : Index := Scalar.indexCast v2
  ![8, 88, v2650.toNat]
def k0_off384 (k0_t1 : Fin k0_t1_loop.trips) : Fin 3 → Nat :=
  let c9_871 : Index := 9#32
  let c88_872 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2656 : Index := Scalar.indexCast v2
  ![9, 88, v2656.toNat]
def k0_off385 (k0_t1 : Fin k0_t1_loop.trips) : Fin 3 → Nat :=
  let c10_873 : Index := 10#32
  let c88_874 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2662 : Index := Scalar.indexCast v2
  ![10, 88, v2662.toNat]
def k0_off386 (k0_t1 : Fin k0_t1_loop.trips) : Fin 3 → Nat :=
  let c11_875 : Index := 11#32
  let c88_876 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2668 : Index := Scalar.indexCast v2
  ![11, 88, v2668.toNat]
def k0_off387 (k0_t1 : Fin k0_t1_loop.trips) : Fin 3 → Nat :=
  let c12_877 : Index := 12#32
  let c88_878 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2674 : Index := Scalar.indexCast v2
  ![12, 88, v2674.toNat]
def k0_off388 (k0_t1 : Fin k0_t1_loop.trips) : Fin 3 → Nat :=
  let c13_879 : Index := 13#32
  let c88_880 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2680 : Index := Scalar.indexCast v2
  ![13, 88, v2680.toNat]
def k0_off389 (k0_t1 : Fin k0_t1_loop.trips) : Fin 3 → Nat :=
  let c14_881 : Index := 14#32
  let c88_882 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2686 : Index := Scalar.indexCast v2
  ![14, 88, v2686.toNat]
def k0_off390 (k0_t1 : Fin k0_t1_loop.trips) : Fin 3 → Nat :=
  let c15_883 : Index := 15#32
  let c88_884 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2692 : Index := Scalar.indexCast v2
  ![15, 88, v2692.toNat]
def k0_off391 (k0_t1 : Fin k0_t1_loop.trips) : Fin 3 → Nat :=
  let c16_885 : Index := 16#32
  let c88_886 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2698 : Index := Scalar.indexCast v2
  ![16, 88, v2698.toNat]
def k0_off392 (k0_t1 : Fin k0_t1_loop.trips) : Fin 3 → Nat :=
  let c17_887 : Index := 17#32
  let c88_888 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2704 : Index := Scalar.indexCast v2
  ![17, 88, v2704.toNat]
def k0_off393 (k0_t1 : Fin k0_t1_loop.trips) : Fin 3 → Nat :=
  let c18_889 : Index := 18#32
  let c88_890 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2710 : Index := Scalar.indexCast v2
  ![18, 88, v2710.toNat]
def k0_off394 (k0_t1 : Fin k0_t1_loop.trips) : Fin 3 → Nat :=
  let c19_891 : Index := 19#32
  let c88_892 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2716 : Index := Scalar.indexCast v2
  ![19, 88, v2716.toNat]
def k0_off395 (k0_t1 : Fin k0_t1_loop.trips) : Fin 3 → Nat :=
  let c20_893 : Index := 20#32
  let c88_894 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2722 : Index := Scalar.indexCast v2
  ![20, 88, v2722.toNat]
def k0_off396 (k0_t1 : Fin k0_t1_loop.trips) : Fin 3 → Nat :=
  let c21_895 : Index := 21#32
  let c88_896 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2728 : Index := Scalar.indexCast v2
  ![21, 88, v2728.toNat]
def k0_off397 (k0_t1 : Fin k0_t1_loop.trips) : Fin 3 → Nat :=
  let c22_897 : Index := 22#32
  let c88_898 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2734 : Index := Scalar.indexCast v2
  ![22, 88, v2734.toNat]
def k0_off398 (k0_t1 : Fin k0_t1_loop.trips) : Fin 3 → Nat :=
  let c23_899 : Index := 23#32
  let c88_900 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2740 : Index := Scalar.indexCast v2
  ![23, 88, v2740.toNat]
def k0_off399 (k0_t1 : Fin k0_t1_loop.trips) : Fin 3 → Nat :=
  let c24_901 : Index := 24#32
  let c88_902 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2746 : Index := Scalar.indexCast v2
  ![24, 88, v2746.toNat]
def k0_off400 (k0_t1 : Fin k0_t1_loop.trips) : Fin 3 → Nat :=
  let c25_903 : Index := 25#32
  let c88_904 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2752 : Index := Scalar.indexCast v2
  ![25, 88, v2752.toNat]
def k0_off401 (k0_t1 : Fin k0_t1_loop.trips) : Fin 3 → Nat :=
  let c26_905 : Index := 26#32
  let c88_906 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2758 : Index := Scalar.indexCast v2
  ![26, 88, v2758.toNat]
def k0_off402 (k0_t1 : Fin k0_t1_loop.trips) : Fin 3 → Nat :=
  let c27_907 : Index := 27#32
  let c88_908 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2764 : Index := Scalar.indexCast v2
  ![27, 88, v2764.toNat]
def k0_off403 (k0_t1 : Fin k0_t1_loop.trips) : Fin 3 → Nat :=
  let c28_909 : Index := 28#32
  let c88_910 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2770 : Index := Scalar.indexCast v2
  ![28, 88, v2770.toNat]
def k0_off404 (k0_t1 : Fin k0_t1_loop.trips) : Fin 3 → Nat :=
  let c29_911 : Index := 29#32
  let c88_912 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2776 : Index := Scalar.indexCast v2
  ![29, 88, v2776.toNat]
def k0_off405 (k0_t1 : Fin k0_t1_loop.trips) : Fin 3 → Nat :=
  let c30_913 : Index := 30#32
  let c88_914 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2782 : Index := Scalar.indexCast v2
  ![30, 88, v2782.toNat]
def k0_off406 (k0_t1 : Fin k0_t1_loop.trips) : Fin 3 → Nat :=
  let c31_915 : Index := 31#32
  let c88_916 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2788 : Index := Scalar.indexCast v2
  ![31, 88, v2788.toNat]
def k0_off407 (k0_t1 : Fin k0_t1_loop.trips) : Fin 3 → Nat :=
  let c32_917 : Index := 32#32
  let c88_918 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2794 : Index := Scalar.indexCast v2
  ![32, 88, v2794.toNat]
def k0_off408 (k0_t1 : Fin k0_t1_loop.trips) : Fin 3 → Nat :=
  let c33_919 : Index := 33#32
  let c88_920 : Index := 88#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2800 : Index := Scalar.indexCast v2
  ![33, 88, v2800.toNat]
def k0_off409 (k0_t1 : Fin k0_t1_loop.trips) : Fin 3 → Nat :=
  let c0_925 : Index := 0#32
  let c96 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2812 : Index := Scalar.indexCast v2
  ![0, 96, v2812.toNat]
def k0_off410 (k0_t1 : Fin k0_t1_loop.trips) : Fin 3 → Nat :=
  let c1_926 : Index := 1#32
  let c96_927 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2815 : Index := Scalar.indexCast v2
  ![1, 96, v2815.toNat]
def k0_off411 (k0_t1 : Fin k0_t1_loop.trips) : Fin 3 → Nat :=
  let c2_937 : Index := 2#32
  let c96_938 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2848 : Index := Scalar.indexCast v2
  ![2, 96, v2848.toNat]
def k0_off412 (k0_t1 : Fin k0_t1_loop.trips) : Fin 3 → Nat :=
  let c3_939 : Index := 3#32
  let c96_940 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2854 : Index := Scalar.indexCast v2
  ![3, 96, v2854.toNat]
def k0_off413 (k0_t1 : Fin k0_t1_loop.trips) : Fin 3 → Nat :=
  let c4_941 : Index := 4#32
  let c96_942 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2860 : Index := Scalar.indexCast v2
  ![4, 96, v2860.toNat]
def k0_off414 (k0_t1 : Fin k0_t1_loop.trips) : Fin 3 → Nat :=
  let c5_943 : Index := 5#32
  let c96_944 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2866 : Index := Scalar.indexCast v2
  ![5, 96, v2866.toNat]
def k0_off415 (k0_t1 : Fin k0_t1_loop.trips) : Fin 3 → Nat :=
  let c6_945 : Index := 6#32
  let c96_946 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2872 : Index := Scalar.indexCast v2
  ![6, 96, v2872.toNat]
def k0_off416 (k0_t1 : Fin k0_t1_loop.trips) : Fin 3 → Nat :=
  let c7_947 : Index := 7#32
  let c96_948 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2878 : Index := Scalar.indexCast v2
  ![7, 96, v2878.toNat]
def k0_off417 (k0_t1 : Fin k0_t1_loop.trips) : Fin 3 → Nat :=
  let c8_949 : Index := 8#32
  let c96_950 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2884 : Index := Scalar.indexCast v2
  ![8, 96, v2884.toNat]
def k0_off418 (k0_t1 : Fin k0_t1_loop.trips) : Fin 3 → Nat :=
  let c9_951 : Index := 9#32
  let c96_952 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2890 : Index := Scalar.indexCast v2
  ![9, 96, v2890.toNat]
def k0_off419 (k0_t1 : Fin k0_t1_loop.trips) : Fin 3 → Nat :=
  let c10_953 : Index := 10#32
  let c96_954 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2896 : Index := Scalar.indexCast v2
  ![10, 96, v2896.toNat]
def k0_off420 (k0_t1 : Fin k0_t1_loop.trips) : Fin 3 → Nat :=
  let c11_955 : Index := 11#32
  let c96_956 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2902 : Index := Scalar.indexCast v2
  ![11, 96, v2902.toNat]
def k0_off421 (k0_t1 : Fin k0_t1_loop.trips) : Fin 3 → Nat :=
  let c12_957 : Index := 12#32
  let c96_958 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2908 : Index := Scalar.indexCast v2
  ![12, 96, v2908.toNat]
def k0_off422 (k0_t1 : Fin k0_t1_loop.trips) : Fin 3 → Nat :=
  let c13_959 : Index := 13#32
  let c96_960 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2914 : Index := Scalar.indexCast v2
  ![13, 96, v2914.toNat]
def k0_off423 (k0_t1 : Fin k0_t1_loop.trips) : Fin 3 → Nat :=
  let c14_961 : Index := 14#32
  let c96_962 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2920 : Index := Scalar.indexCast v2
  ![14, 96, v2920.toNat]
def k0_off424 (k0_t1 : Fin k0_t1_loop.trips) : Fin 3 → Nat :=
  let c15_963 : Index := 15#32
  let c96_964 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2926 : Index := Scalar.indexCast v2
  ![15, 96, v2926.toNat]
def k0_off425 (k0_t1 : Fin k0_t1_loop.trips) : Fin 3 → Nat :=
  let c16_965 : Index := 16#32
  let c96_966 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2932 : Index := Scalar.indexCast v2
  ![16, 96, v2932.toNat]
def k0_off426 (k0_t1 : Fin k0_t1_loop.trips) : Fin 3 → Nat :=
  let c17_967 : Index := 17#32
  let c96_968 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2938 : Index := Scalar.indexCast v2
  ![17, 96, v2938.toNat]
def k0_off427 (k0_t1 : Fin k0_t1_loop.trips) : Fin 3 → Nat :=
  let c18_969 : Index := 18#32
  let c96_970 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2944 : Index := Scalar.indexCast v2
  ![18, 96, v2944.toNat]
def k0_off428 (k0_t1 : Fin k0_t1_loop.trips) : Fin 3 → Nat :=
  let c19_971 : Index := 19#32
  let c96_972 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2950 : Index := Scalar.indexCast v2
  ![19, 96, v2950.toNat]
def k0_off429 (k0_t1 : Fin k0_t1_loop.trips) : Fin 3 → Nat :=
  let c20_973 : Index := 20#32
  let c96_974 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2956 : Index := Scalar.indexCast v2
  ![20, 96, v2956.toNat]
def k0_off430 (k0_t1 : Fin k0_t1_loop.trips) : Fin 3 → Nat :=
  let c21_975 : Index := 21#32
  let c96_976 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2962 : Index := Scalar.indexCast v2
  ![21, 96, v2962.toNat]
def k0_off431 (k0_t1 : Fin k0_t1_loop.trips) : Fin 3 → Nat :=
  let c22_977 : Index := 22#32
  let c96_978 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2968 : Index := Scalar.indexCast v2
  ![22, 96, v2968.toNat]
def k0_off432 (k0_t1 : Fin k0_t1_loop.trips) : Fin 3 → Nat :=
  let c23_979 : Index := 23#32
  let c96_980 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2974 : Index := Scalar.indexCast v2
  ![23, 96, v2974.toNat]
def k0_off433 (k0_t1 : Fin k0_t1_loop.trips) : Fin 3 → Nat :=
  let c24_981 : Index := 24#32
  let c96_982 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2980 : Index := Scalar.indexCast v2
  ![24, 96, v2980.toNat]
def k0_off434 (k0_t1 : Fin k0_t1_loop.trips) : Fin 3 → Nat :=
  let c25_983 : Index := 25#32
  let c96_984 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2986 : Index := Scalar.indexCast v2
  ![25, 96, v2986.toNat]
def k0_off435 (k0_t1 : Fin k0_t1_loop.trips) : Fin 3 → Nat :=
  let c26_985 : Index := 26#32
  let c96_986 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2992 : Index := Scalar.indexCast v2
  ![26, 96, v2992.toNat]
def k0_off436 (k0_t1 : Fin k0_t1_loop.trips) : Fin 3 → Nat :=
  let c27_987 : Index := 27#32
  let c96_988 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v2998 : Index := Scalar.indexCast v2
  ![27, 96, v2998.toNat]
def k0_off437 (k0_t1 : Fin k0_t1_loop.trips) : Fin 3 → Nat :=
  let c28_989 : Index := 28#32
  let c96_990 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3004 : Index := Scalar.indexCast v2
  ![28, 96, v3004.toNat]
def k0_off438 (k0_t1 : Fin k0_t1_loop.trips) : Fin 3 → Nat :=
  let c29_991 : Index := 29#32
  let c96_992 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3010 : Index := Scalar.indexCast v2
  ![29, 96, v3010.toNat]
def k0_off439 (k0_t1 : Fin k0_t1_loop.trips) : Fin 3 → Nat :=
  let c30_993 : Index := 30#32
  let c96_994 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3016 : Index := Scalar.indexCast v2
  ![30, 96, v3016.toNat]
def k0_off440 (k0_t1 : Fin k0_t1_loop.trips) : Fin 3 → Nat :=
  let c31_995 : Index := 31#32
  let c96_996 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3022 : Index := Scalar.indexCast v2
  ![31, 96, v3022.toNat]
def k0_off441 (k0_t1 : Fin k0_t1_loop.trips) : Fin 3 → Nat :=
  let c32_997 : Index := 32#32
  let c96_998 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3028 : Index := Scalar.indexCast v2
  ![32, 96, v3028.toNat]
def k0_off442 (k0_t1 : Fin k0_t1_loop.trips) : Fin 3 → Nat :=
  let c33_999 : Index := 33#32
  let c96_1000 : Index := 96#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3034 : Index := Scalar.indexCast v2
  ![33, 96, v3034.toNat]
def k0_off443 (k0_t1 : Fin k0_t1_loop.trips) : Fin 3 → Nat :=
  let c0_1005 : Index := 0#32
  let c104 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3046 : Index := Scalar.indexCast v2
  ![0, 104, v3046.toNat]
def k0_off444 (k0_t1 : Fin k0_t1_loop.trips) : Fin 3 → Nat :=
  let c1_1006 : Index := 1#32
  let c104_1007 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3049 : Index := Scalar.indexCast v2
  ![1, 104, v3049.toNat]
def k0_off445 (k0_t1 : Fin k0_t1_loop.trips) : Fin 3 → Nat :=
  let c2_1017 : Index := 2#32
  let c104_1018 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3082 : Index := Scalar.indexCast v2
  ![2, 104, v3082.toNat]
def k0_off446 (k0_t1 : Fin k0_t1_loop.trips) : Fin 3 → Nat :=
  let c3_1019 : Index := 3#32
  let c104_1020 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3088 : Index := Scalar.indexCast v2
  ![3, 104, v3088.toNat]
def k0_off447 (k0_t1 : Fin k0_t1_loop.trips) : Fin 3 → Nat :=
  let c4_1021 : Index := 4#32
  let c104_1022 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3094 : Index := Scalar.indexCast v2
  ![4, 104, v3094.toNat]
def k0_off448 (k0_t1 : Fin k0_t1_loop.trips) : Fin 3 → Nat :=
  let c5_1023 : Index := 5#32
  let c104_1024 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3100 : Index := Scalar.indexCast v2
  ![5, 104, v3100.toNat]
def k0_off449 (k0_t1 : Fin k0_t1_loop.trips) : Fin 3 → Nat :=
  let c6_1025 : Index := 6#32
  let c104_1026 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3106 : Index := Scalar.indexCast v2
  ![6, 104, v3106.toNat]
def k0_off450 (k0_t1 : Fin k0_t1_loop.trips) : Fin 3 → Nat :=
  let c7_1027 : Index := 7#32
  let c104_1028 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3112 : Index := Scalar.indexCast v2
  ![7, 104, v3112.toNat]
def k0_off451 (k0_t1 : Fin k0_t1_loop.trips) : Fin 3 → Nat :=
  let c8_1029 : Index := 8#32
  let c104_1030 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3118 : Index := Scalar.indexCast v2
  ![8, 104, v3118.toNat]
def k0_off452 (k0_t1 : Fin k0_t1_loop.trips) : Fin 3 → Nat :=
  let c9_1031 : Index := 9#32
  let c104_1032 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3124 : Index := Scalar.indexCast v2
  ![9, 104, v3124.toNat]
def k0_off453 (k0_t1 : Fin k0_t1_loop.trips) : Fin 3 → Nat :=
  let c10_1033 : Index := 10#32
  let c104_1034 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3130 : Index := Scalar.indexCast v2
  ![10, 104, v3130.toNat]
def k0_off454 (k0_t1 : Fin k0_t1_loop.trips) : Fin 3 → Nat :=
  let c11_1035 : Index := 11#32
  let c104_1036 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3136 : Index := Scalar.indexCast v2
  ![11, 104, v3136.toNat]
def k0_off455 (k0_t1 : Fin k0_t1_loop.trips) : Fin 3 → Nat :=
  let c12_1037 : Index := 12#32
  let c104_1038 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3142 : Index := Scalar.indexCast v2
  ![12, 104, v3142.toNat]
def k0_off456 (k0_t1 : Fin k0_t1_loop.trips) : Fin 3 → Nat :=
  let c13_1039 : Index := 13#32
  let c104_1040 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3148 : Index := Scalar.indexCast v2
  ![13, 104, v3148.toNat]
def k0_off457 (k0_t1 : Fin k0_t1_loop.trips) : Fin 3 → Nat :=
  let c14_1041 : Index := 14#32
  let c104_1042 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3154 : Index := Scalar.indexCast v2
  ![14, 104, v3154.toNat]
def k0_off458 (k0_t1 : Fin k0_t1_loop.trips) : Fin 3 → Nat :=
  let c15_1043 : Index := 15#32
  let c104_1044 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3160 : Index := Scalar.indexCast v2
  ![15, 104, v3160.toNat]
def k0_off459 (k0_t1 : Fin k0_t1_loop.trips) : Fin 3 → Nat :=
  let c16_1045 : Index := 16#32
  let c104_1046 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3166 : Index := Scalar.indexCast v2
  ![16, 104, v3166.toNat]
def k0_off460 (k0_t1 : Fin k0_t1_loop.trips) : Fin 3 → Nat :=
  let c17_1047 : Index := 17#32
  let c104_1048 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3172 : Index := Scalar.indexCast v2
  ![17, 104, v3172.toNat]
def k0_off461 (k0_t1 : Fin k0_t1_loop.trips) : Fin 3 → Nat :=
  let c18_1049 : Index := 18#32
  let c104_1050 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3178 : Index := Scalar.indexCast v2
  ![18, 104, v3178.toNat]
def k0_off462 (k0_t1 : Fin k0_t1_loop.trips) : Fin 3 → Nat :=
  let c19_1051 : Index := 19#32
  let c104_1052 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3184 : Index := Scalar.indexCast v2
  ![19, 104, v3184.toNat]
def k0_off463 (k0_t1 : Fin k0_t1_loop.trips) : Fin 3 → Nat :=
  let c20_1053 : Index := 20#32
  let c104_1054 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3190 : Index := Scalar.indexCast v2
  ![20, 104, v3190.toNat]
def k0_off464 (k0_t1 : Fin k0_t1_loop.trips) : Fin 3 → Nat :=
  let c21_1055 : Index := 21#32
  let c104_1056 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3196 : Index := Scalar.indexCast v2
  ![21, 104, v3196.toNat]
def k0_off465 (k0_t1 : Fin k0_t1_loop.trips) : Fin 3 → Nat :=
  let c22_1057 : Index := 22#32
  let c104_1058 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3202 : Index := Scalar.indexCast v2
  ![22, 104, v3202.toNat]
def k0_off466 (k0_t1 : Fin k0_t1_loop.trips) : Fin 3 → Nat :=
  let c23_1059 : Index := 23#32
  let c104_1060 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3208 : Index := Scalar.indexCast v2
  ![23, 104, v3208.toNat]
def k0_off467 (k0_t1 : Fin k0_t1_loop.trips) : Fin 3 → Nat :=
  let c24_1061 : Index := 24#32
  let c104_1062 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3214 : Index := Scalar.indexCast v2
  ![24, 104, v3214.toNat]
def k0_off468 (k0_t1 : Fin k0_t1_loop.trips) : Fin 3 → Nat :=
  let c25_1063 : Index := 25#32
  let c104_1064 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3220 : Index := Scalar.indexCast v2
  ![25, 104, v3220.toNat]
def k0_off469 (k0_t1 : Fin k0_t1_loop.trips) : Fin 3 → Nat :=
  let c26_1065 : Index := 26#32
  let c104_1066 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3226 : Index := Scalar.indexCast v2
  ![26, 104, v3226.toNat]
def k0_off470 (k0_t1 : Fin k0_t1_loop.trips) : Fin 3 → Nat :=
  let c27_1067 : Index := 27#32
  let c104_1068 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3232 : Index := Scalar.indexCast v2
  ![27, 104, v3232.toNat]
def k0_off471 (k0_t1 : Fin k0_t1_loop.trips) : Fin 3 → Nat :=
  let c28_1069 : Index := 28#32
  let c104_1070 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3238 : Index := Scalar.indexCast v2
  ![28, 104, v3238.toNat]
def k0_off472 (k0_t1 : Fin k0_t1_loop.trips) : Fin 3 → Nat :=
  let c29_1071 : Index := 29#32
  let c104_1072 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3244 : Index := Scalar.indexCast v2
  ![29, 104, v3244.toNat]
def k0_off473 (k0_t1 : Fin k0_t1_loop.trips) : Fin 3 → Nat :=
  let c30_1073 : Index := 30#32
  let c104_1074 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3250 : Index := Scalar.indexCast v2
  ![30, 104, v3250.toNat]
def k0_off474 (k0_t1 : Fin k0_t1_loop.trips) : Fin 3 → Nat :=
  let c31_1075 : Index := 31#32
  let c104_1076 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3256 : Index := Scalar.indexCast v2
  ![31, 104, v3256.toNat]
def k0_off475 (k0_t1 : Fin k0_t1_loop.trips) : Fin 3 → Nat :=
  let c32_1077 : Index := 32#32
  let c104_1078 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3262 : Index := Scalar.indexCast v2
  ![32, 104, v3262.toNat]
def k0_off476 (k0_t1 : Fin k0_t1_loop.trips) : Fin 3 → Nat :=
  let c33_1079 : Index := 33#32
  let c104_1080 : Index := 104#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3268 : Index := Scalar.indexCast v2
  ![33, 104, v3268.toNat]
def k0_off477 (k0_t1 : Fin k0_t1_loop.trips) : Fin 3 → Nat :=
  let c0_1085 : Index := 0#32
  let c112 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3280 : Index := Scalar.indexCast v2
  ![0, 112, v3280.toNat]
def k0_off478 (k0_t1 : Fin k0_t1_loop.trips) : Fin 3 → Nat :=
  let c1_1086 : Index := 1#32
  let c112_1087 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3283 : Index := Scalar.indexCast v2
  ![1, 112, v3283.toNat]
def k0_off479 (k0_t1 : Fin k0_t1_loop.trips) : Fin 3 → Nat :=
  let c2_1097 : Index := 2#32
  let c112_1098 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3316 : Index := Scalar.indexCast v2
  ![2, 112, v3316.toNat]
def k0_off480 (k0_t1 : Fin k0_t1_loop.trips) : Fin 3 → Nat :=
  let c3_1099 : Index := 3#32
  let c112_1100 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3322 : Index := Scalar.indexCast v2
  ![3, 112, v3322.toNat]
def k0_off481 (k0_t1 : Fin k0_t1_loop.trips) : Fin 3 → Nat :=
  let c4_1101 : Index := 4#32
  let c112_1102 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3328 : Index := Scalar.indexCast v2
  ![4, 112, v3328.toNat]
def k0_off482 (k0_t1 : Fin k0_t1_loop.trips) : Fin 3 → Nat :=
  let c5_1103 : Index := 5#32
  let c112_1104 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3334 : Index := Scalar.indexCast v2
  ![5, 112, v3334.toNat]
def k0_off483 (k0_t1 : Fin k0_t1_loop.trips) : Fin 3 → Nat :=
  let c6_1105 : Index := 6#32
  let c112_1106 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3340 : Index := Scalar.indexCast v2
  ![6, 112, v3340.toNat]
def k0_off484 (k0_t1 : Fin k0_t1_loop.trips) : Fin 3 → Nat :=
  let c7_1107 : Index := 7#32
  let c112_1108 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3346 : Index := Scalar.indexCast v2
  ![7, 112, v3346.toNat]
def k0_off485 (k0_t1 : Fin k0_t1_loop.trips) : Fin 3 → Nat :=
  let c8_1109 : Index := 8#32
  let c112_1110 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3352 : Index := Scalar.indexCast v2
  ![8, 112, v3352.toNat]
def k0_off486 (k0_t1 : Fin k0_t1_loop.trips) : Fin 3 → Nat :=
  let c9_1111 : Index := 9#32
  let c112_1112 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3358 : Index := Scalar.indexCast v2
  ![9, 112, v3358.toNat]
def k0_off487 (k0_t1 : Fin k0_t1_loop.trips) : Fin 3 → Nat :=
  let c10_1113 : Index := 10#32
  let c112_1114 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3364 : Index := Scalar.indexCast v2
  ![10, 112, v3364.toNat]
def k0_off488 (k0_t1 : Fin k0_t1_loop.trips) : Fin 3 → Nat :=
  let c11_1115 : Index := 11#32
  let c112_1116 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3370 : Index := Scalar.indexCast v2
  ![11, 112, v3370.toNat]
def k0_off489 (k0_t1 : Fin k0_t1_loop.trips) : Fin 3 → Nat :=
  let c12_1117 : Index := 12#32
  let c112_1118 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3376 : Index := Scalar.indexCast v2
  ![12, 112, v3376.toNat]
def k0_off490 (k0_t1 : Fin k0_t1_loop.trips) : Fin 3 → Nat :=
  let c13_1119 : Index := 13#32
  let c112_1120 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3382 : Index := Scalar.indexCast v2
  ![13, 112, v3382.toNat]
def k0_off491 (k0_t1 : Fin k0_t1_loop.trips) : Fin 3 → Nat :=
  let c14_1121 : Index := 14#32
  let c112_1122 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3388 : Index := Scalar.indexCast v2
  ![14, 112, v3388.toNat]
def k0_off492 (k0_t1 : Fin k0_t1_loop.trips) : Fin 3 → Nat :=
  let c15_1123 : Index := 15#32
  let c112_1124 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3394 : Index := Scalar.indexCast v2
  ![15, 112, v3394.toNat]
def k0_off493 (k0_t1 : Fin k0_t1_loop.trips) : Fin 3 → Nat :=
  let c16_1125 : Index := 16#32
  let c112_1126 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3400 : Index := Scalar.indexCast v2
  ![16, 112, v3400.toNat]
def k0_off494 (k0_t1 : Fin k0_t1_loop.trips) : Fin 3 → Nat :=
  let c17_1127 : Index := 17#32
  let c112_1128 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3406 : Index := Scalar.indexCast v2
  ![17, 112, v3406.toNat]
def k0_off495 (k0_t1 : Fin k0_t1_loop.trips) : Fin 3 → Nat :=
  let c18_1129 : Index := 18#32
  let c112_1130 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3412 : Index := Scalar.indexCast v2
  ![18, 112, v3412.toNat]
def k0_off496 (k0_t1 : Fin k0_t1_loop.trips) : Fin 3 → Nat :=
  let c19_1131 : Index := 19#32
  let c112_1132 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3418 : Index := Scalar.indexCast v2
  ![19, 112, v3418.toNat]
def k0_off497 (k0_t1 : Fin k0_t1_loop.trips) : Fin 3 → Nat :=
  let c20_1133 : Index := 20#32
  let c112_1134 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3424 : Index := Scalar.indexCast v2
  ![20, 112, v3424.toNat]
def k0_off498 (k0_t1 : Fin k0_t1_loop.trips) : Fin 3 → Nat :=
  let c21_1135 : Index := 21#32
  let c112_1136 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3430 : Index := Scalar.indexCast v2
  ![21, 112, v3430.toNat]
def k0_off499 (k0_t1 : Fin k0_t1_loop.trips) : Fin 3 → Nat :=
  let c22_1137 : Index := 22#32
  let c112_1138 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3436 : Index := Scalar.indexCast v2
  ![22, 112, v3436.toNat]
def k0_off500 (k0_t1 : Fin k0_t1_loop.trips) : Fin 3 → Nat :=
  let c23_1139 : Index := 23#32
  let c112_1140 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3442 : Index := Scalar.indexCast v2
  ![23, 112, v3442.toNat]
def k0_off501 (k0_t1 : Fin k0_t1_loop.trips) : Fin 3 → Nat :=
  let c24_1141 : Index := 24#32
  let c112_1142 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3448 : Index := Scalar.indexCast v2
  ![24, 112, v3448.toNat]
def k0_off502 (k0_t1 : Fin k0_t1_loop.trips) : Fin 3 → Nat :=
  let c25_1143 : Index := 25#32
  let c112_1144 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3454 : Index := Scalar.indexCast v2
  ![25, 112, v3454.toNat]
def k0_off503 (k0_t1 : Fin k0_t1_loop.trips) : Fin 3 → Nat :=
  let c26_1145 : Index := 26#32
  let c112_1146 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3460 : Index := Scalar.indexCast v2
  ![26, 112, v3460.toNat]
def k0_off504 (k0_t1 : Fin k0_t1_loop.trips) : Fin 3 → Nat :=
  let c27_1147 : Index := 27#32
  let c112_1148 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3466 : Index := Scalar.indexCast v2
  ![27, 112, v3466.toNat]
def k0_off505 (k0_t1 : Fin k0_t1_loop.trips) : Fin 3 → Nat :=
  let c28_1149 : Index := 28#32
  let c112_1150 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3472 : Index := Scalar.indexCast v2
  ![28, 112, v3472.toNat]
def k0_off506 (k0_t1 : Fin k0_t1_loop.trips) : Fin 3 → Nat :=
  let c29_1151 : Index := 29#32
  let c112_1152 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3478 : Index := Scalar.indexCast v2
  ![29, 112, v3478.toNat]
def k0_off507 (k0_t1 : Fin k0_t1_loop.trips) : Fin 3 → Nat :=
  let c30_1153 : Index := 30#32
  let c112_1154 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3484 : Index := Scalar.indexCast v2
  ![30, 112, v3484.toNat]
def k0_off508 (k0_t1 : Fin k0_t1_loop.trips) : Fin 3 → Nat :=
  let c31_1155 : Index := 31#32
  let c112_1156 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3490 : Index := Scalar.indexCast v2
  ![31, 112, v3490.toNat]
def k0_off509 (k0_t1 : Fin k0_t1_loop.trips) : Fin 3 → Nat :=
  let c32_1157 : Index := 32#32
  let c112_1158 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3496 : Index := Scalar.indexCast v2
  ![32, 112, v3496.toNat]
def k0_off510 (k0_t1 : Fin k0_t1_loop.trips) : Fin 3 → Nat :=
  let c33_1159 : Index := 33#32
  let c112_1160 : Index := 112#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3502 : Index := Scalar.indexCast v2
  ![33, 112, v3502.toNat]
def k0_off511 (k0_t1 : Fin k0_t1_loop.trips) : Fin 3 → Nat :=
  let c0_1165 : Index := 0#32
  let c120 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3514 : Index := Scalar.indexCast v2
  ![0, 120, v3514.toNat]
def k0_off512 (k0_t1 : Fin k0_t1_loop.trips) : Fin 3 → Nat :=
  let c1_1166 : Index := 1#32
  let c120_1167 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3517 : Index := Scalar.indexCast v2
  ![1, 120, v3517.toNat]
def k0_off513 (k0_t1 : Fin k0_t1_loop.trips) : Fin 3 → Nat :=
  let c2_1177 : Index := 2#32
  let c120_1178 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3550 : Index := Scalar.indexCast v2
  ![2, 120, v3550.toNat]
def k0_off514 (k0_t1 : Fin k0_t1_loop.trips) : Fin 3 → Nat :=
  let c3_1179 : Index := 3#32
  let c120_1180 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3556 : Index := Scalar.indexCast v2
  ![3, 120, v3556.toNat]
def k0_off515 (k0_t1 : Fin k0_t1_loop.trips) : Fin 3 → Nat :=
  let c4_1181 : Index := 4#32
  let c120_1182 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3562 : Index := Scalar.indexCast v2
  ![4, 120, v3562.toNat]
def k0_off516 (k0_t1 : Fin k0_t1_loop.trips) : Fin 3 → Nat :=
  let c5_1183 : Index := 5#32
  let c120_1184 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3568 : Index := Scalar.indexCast v2
  ![5, 120, v3568.toNat]
def k0_off517 (k0_t1 : Fin k0_t1_loop.trips) : Fin 3 → Nat :=
  let c6_1185 : Index := 6#32
  let c120_1186 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3574 : Index := Scalar.indexCast v2
  ![6, 120, v3574.toNat]
def k0_off518 (k0_t1 : Fin k0_t1_loop.trips) : Fin 3 → Nat :=
  let c7_1187 : Index := 7#32
  let c120_1188 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3580 : Index := Scalar.indexCast v2
  ![7, 120, v3580.toNat]
def k0_off519 (k0_t1 : Fin k0_t1_loop.trips) : Fin 3 → Nat :=
  let c8_1189 : Index := 8#32
  let c120_1190 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3586 : Index := Scalar.indexCast v2
  ![8, 120, v3586.toNat]
def k0_off520 (k0_t1 : Fin k0_t1_loop.trips) : Fin 3 → Nat :=
  let c9_1191 : Index := 9#32
  let c120_1192 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3592 : Index := Scalar.indexCast v2
  ![9, 120, v3592.toNat]
def k0_off521 (k0_t1 : Fin k0_t1_loop.trips) : Fin 3 → Nat :=
  let c10_1193 : Index := 10#32
  let c120_1194 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3598 : Index := Scalar.indexCast v2
  ![10, 120, v3598.toNat]
def k0_off522 (k0_t1 : Fin k0_t1_loop.trips) : Fin 3 → Nat :=
  let c11_1195 : Index := 11#32
  let c120_1196 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3604 : Index := Scalar.indexCast v2
  ![11, 120, v3604.toNat]
def k0_off523 (k0_t1 : Fin k0_t1_loop.trips) : Fin 3 → Nat :=
  let c12_1197 : Index := 12#32
  let c120_1198 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3610 : Index := Scalar.indexCast v2
  ![12, 120, v3610.toNat]
def k0_off524 (k0_t1 : Fin k0_t1_loop.trips) : Fin 3 → Nat :=
  let c13_1199 : Index := 13#32
  let c120_1200 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3616 : Index := Scalar.indexCast v2
  ![13, 120, v3616.toNat]
def k0_off525 (k0_t1 : Fin k0_t1_loop.trips) : Fin 3 → Nat :=
  let c14_1201 : Index := 14#32
  let c120_1202 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3622 : Index := Scalar.indexCast v2
  ![14, 120, v3622.toNat]
def k0_off526 (k0_t1 : Fin k0_t1_loop.trips) : Fin 3 → Nat :=
  let c15_1203 : Index := 15#32
  let c120_1204 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3628 : Index := Scalar.indexCast v2
  ![15, 120, v3628.toNat]
def k0_off527 (k0_t1 : Fin k0_t1_loop.trips) : Fin 3 → Nat :=
  let c16_1205 : Index := 16#32
  let c120_1206 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3634 : Index := Scalar.indexCast v2
  ![16, 120, v3634.toNat]
def k0_off528 (k0_t1 : Fin k0_t1_loop.trips) : Fin 3 → Nat :=
  let c17_1207 : Index := 17#32
  let c120_1208 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3640 : Index := Scalar.indexCast v2
  ![17, 120, v3640.toNat]
def k0_off529 (k0_t1 : Fin k0_t1_loop.trips) : Fin 3 → Nat :=
  let c18_1209 : Index := 18#32
  let c120_1210 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3646 : Index := Scalar.indexCast v2
  ![18, 120, v3646.toNat]
def k0_off530 (k0_t1 : Fin k0_t1_loop.trips) : Fin 3 → Nat :=
  let c19_1211 : Index := 19#32
  let c120_1212 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3652 : Index := Scalar.indexCast v2
  ![19, 120, v3652.toNat]
def k0_off531 (k0_t1 : Fin k0_t1_loop.trips) : Fin 3 → Nat :=
  let c20_1213 : Index := 20#32
  let c120_1214 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3658 : Index := Scalar.indexCast v2
  ![20, 120, v3658.toNat]
def k0_off532 (k0_t1 : Fin k0_t1_loop.trips) : Fin 3 → Nat :=
  let c21_1215 : Index := 21#32
  let c120_1216 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3664 : Index := Scalar.indexCast v2
  ![21, 120, v3664.toNat]
def k0_off533 (k0_t1 : Fin k0_t1_loop.trips) : Fin 3 → Nat :=
  let c22_1217 : Index := 22#32
  let c120_1218 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3670 : Index := Scalar.indexCast v2
  ![22, 120, v3670.toNat]
def k0_off534 (k0_t1 : Fin k0_t1_loop.trips) : Fin 3 → Nat :=
  let c23_1219 : Index := 23#32
  let c120_1220 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3676 : Index := Scalar.indexCast v2
  ![23, 120, v3676.toNat]
def k0_off535 (k0_t1 : Fin k0_t1_loop.trips) : Fin 3 → Nat :=
  let c24_1221 : Index := 24#32
  let c120_1222 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3682 : Index := Scalar.indexCast v2
  ![24, 120, v3682.toNat]
def k0_off536 (k0_t1 : Fin k0_t1_loop.trips) : Fin 3 → Nat :=
  let c25_1223 : Index := 25#32
  let c120_1224 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3688 : Index := Scalar.indexCast v2
  ![25, 120, v3688.toNat]
def k0_off537 (k0_t1 : Fin k0_t1_loop.trips) : Fin 3 → Nat :=
  let c26_1225 : Index := 26#32
  let c120_1226 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3694 : Index := Scalar.indexCast v2
  ![26, 120, v3694.toNat]
def k0_off538 (k0_t1 : Fin k0_t1_loop.trips) : Fin 3 → Nat :=
  let c27_1227 : Index := 27#32
  let c120_1228 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3700 : Index := Scalar.indexCast v2
  ![27, 120, v3700.toNat]
def k0_off539 (k0_t1 : Fin k0_t1_loop.trips) : Fin 3 → Nat :=
  let c28_1229 : Index := 28#32
  let c120_1230 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3706 : Index := Scalar.indexCast v2
  ![28, 120, v3706.toNat]
def k0_off540 (k0_t1 : Fin k0_t1_loop.trips) : Fin 3 → Nat :=
  let c29_1231 : Index := 29#32
  let c120_1232 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3712 : Index := Scalar.indexCast v2
  ![29, 120, v3712.toNat]
def k0_off541 (k0_t1 : Fin k0_t1_loop.trips) : Fin 3 → Nat :=
  let c30_1233 : Index := 30#32
  let c120_1234 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3718 : Index := Scalar.indexCast v2
  ![30, 120, v3718.toNat]
def k0_off542 (k0_t1 : Fin k0_t1_loop.trips) : Fin 3 → Nat :=
  let c31_1235 : Index := 31#32
  let c120_1236 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3724 : Index := Scalar.indexCast v2
  ![31, 120, v3724.toNat]
def k0_off543 (k0_t1 : Fin k0_t1_loop.trips) : Fin 3 → Nat :=
  let c32_1237 : Index := 32#32
  let c120_1238 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3730 : Index := Scalar.indexCast v2
  ![32, 120, v3730.toNat]
def k0_off544 (k0_t1 : Fin k0_t1_loop.trips) : Fin 3 → Nat :=
  let c33_1239 : Index := 33#32
  let c120_1240 : Index := 120#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3736 : Index := Scalar.indexCast v2
  ![33, 120, v3736.toNat]
def k0_off545 (k0_t1 : Fin k0_t1_loop.trips) : Fin 3 → Nat :=
  let c0_1245 : Index := 0#32
  let c128 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3748 : Index := Scalar.indexCast v2
  ![0, 128, v3748.toNat]
def k0_off546 (k0_t1 : Fin k0_t1_loop.trips) : Fin 3 → Nat :=
  let c1_1246 : Index := 1#32
  let c128_1247 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3751 : Index := Scalar.indexCast v2
  ![1, 128, v3751.toNat]
def k0_off547 (k0_t1 : Fin k0_t1_loop.trips) : Fin 3 → Nat :=
  let c2_1257 : Index := 2#32
  let c128_1258 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3784 : Index := Scalar.indexCast v2
  ![2, 128, v3784.toNat]
def k0_off548 (k0_t1 : Fin k0_t1_loop.trips) : Fin 3 → Nat :=
  let c3_1259 : Index := 3#32
  let c128_1260 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3790 : Index := Scalar.indexCast v2
  ![3, 128, v3790.toNat]
def k0_off549 (k0_t1 : Fin k0_t1_loop.trips) : Fin 3 → Nat :=
  let c4_1261 : Index := 4#32
  let c128_1262 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3796 : Index := Scalar.indexCast v2
  ![4, 128, v3796.toNat]
def k0_off550 (k0_t1 : Fin k0_t1_loop.trips) : Fin 3 → Nat :=
  let c5_1263 : Index := 5#32
  let c128_1264 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3802 : Index := Scalar.indexCast v2
  ![5, 128, v3802.toNat]
def k0_off551 (k0_t1 : Fin k0_t1_loop.trips) : Fin 3 → Nat :=
  let c6_1265 : Index := 6#32
  let c128_1266 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3808 : Index := Scalar.indexCast v2
  ![6, 128, v3808.toNat]
def k0_off552 (k0_t1 : Fin k0_t1_loop.trips) : Fin 3 → Nat :=
  let c7_1267 : Index := 7#32
  let c128_1268 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3814 : Index := Scalar.indexCast v2
  ![7, 128, v3814.toNat]
def k0_off553 (k0_t1 : Fin k0_t1_loop.trips) : Fin 3 → Nat :=
  let c8_1269 : Index := 8#32
  let c128_1270 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3820 : Index := Scalar.indexCast v2
  ![8, 128, v3820.toNat]
def k0_off554 (k0_t1 : Fin k0_t1_loop.trips) : Fin 3 → Nat :=
  let c9_1271 : Index := 9#32
  let c128_1272 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3826 : Index := Scalar.indexCast v2
  ![9, 128, v3826.toNat]
def k0_off555 (k0_t1 : Fin k0_t1_loop.trips) : Fin 3 → Nat :=
  let c10_1273 : Index := 10#32
  let c128_1274 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3832 : Index := Scalar.indexCast v2
  ![10, 128, v3832.toNat]
def k0_off556 (k0_t1 : Fin k0_t1_loop.trips) : Fin 3 → Nat :=
  let c11_1275 : Index := 11#32
  let c128_1276 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3838 : Index := Scalar.indexCast v2
  ![11, 128, v3838.toNat]
def k0_off557 (k0_t1 : Fin k0_t1_loop.trips) : Fin 3 → Nat :=
  let c12_1277 : Index := 12#32
  let c128_1278 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3844 : Index := Scalar.indexCast v2
  ![12, 128, v3844.toNat]
def k0_off558 (k0_t1 : Fin k0_t1_loop.trips) : Fin 3 → Nat :=
  let c13_1279 : Index := 13#32
  let c128_1280 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3850 : Index := Scalar.indexCast v2
  ![13, 128, v3850.toNat]
def k0_off559 (k0_t1 : Fin k0_t1_loop.trips) : Fin 3 → Nat :=
  let c14_1281 : Index := 14#32
  let c128_1282 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3856 : Index := Scalar.indexCast v2
  ![14, 128, v3856.toNat]
def k0_off560 (k0_t1 : Fin k0_t1_loop.trips) : Fin 3 → Nat :=
  let c15_1283 : Index := 15#32
  let c128_1284 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3862 : Index := Scalar.indexCast v2
  ![15, 128, v3862.toNat]
def k0_off561 (k0_t1 : Fin k0_t1_loop.trips) : Fin 3 → Nat :=
  let c16_1285 : Index := 16#32
  let c128_1286 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3868 : Index := Scalar.indexCast v2
  ![16, 128, v3868.toNat]
def k0_off562 (k0_t1 : Fin k0_t1_loop.trips) : Fin 3 → Nat :=
  let c17_1287 : Index := 17#32
  let c128_1288 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3874 : Index := Scalar.indexCast v2
  ![17, 128, v3874.toNat]
def k0_off563 (k0_t1 : Fin k0_t1_loop.trips) : Fin 3 → Nat :=
  let c18_1289 : Index := 18#32
  let c128_1290 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3880 : Index := Scalar.indexCast v2
  ![18, 128, v3880.toNat]
def k0_off564 (k0_t1 : Fin k0_t1_loop.trips) : Fin 3 → Nat :=
  let c19_1291 : Index := 19#32
  let c128_1292 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3886 : Index := Scalar.indexCast v2
  ![19, 128, v3886.toNat]
def k0_off565 (k0_t1 : Fin k0_t1_loop.trips) : Fin 3 → Nat :=
  let c20_1293 : Index := 20#32
  let c128_1294 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3892 : Index := Scalar.indexCast v2
  ![20, 128, v3892.toNat]
def k0_off566 (k0_t1 : Fin k0_t1_loop.trips) : Fin 3 → Nat :=
  let c21_1295 : Index := 21#32
  let c128_1296 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3898 : Index := Scalar.indexCast v2
  ![21, 128, v3898.toNat]
def k0_off567 (k0_t1 : Fin k0_t1_loop.trips) : Fin 3 → Nat :=
  let c22_1297 : Index := 22#32
  let c128_1298 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3904 : Index := Scalar.indexCast v2
  ![22, 128, v3904.toNat]
def k0_off568 (k0_t1 : Fin k0_t1_loop.trips) : Fin 3 → Nat :=
  let c23_1299 : Index := 23#32
  let c128_1300 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3910 : Index := Scalar.indexCast v2
  ![23, 128, v3910.toNat]
def k0_off569 (k0_t1 : Fin k0_t1_loop.trips) : Fin 3 → Nat :=
  let c24_1301 : Index := 24#32
  let c128_1302 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3916 : Index := Scalar.indexCast v2
  ![24, 128, v3916.toNat]
def k0_off570 (k0_t1 : Fin k0_t1_loop.trips) : Fin 3 → Nat :=
  let c25_1303 : Index := 25#32
  let c128_1304 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3922 : Index := Scalar.indexCast v2
  ![25, 128, v3922.toNat]
def k0_off571 (k0_t1 : Fin k0_t1_loop.trips) : Fin 3 → Nat :=
  let c26_1305 : Index := 26#32
  let c128_1306 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3928 : Index := Scalar.indexCast v2
  ![26, 128, v3928.toNat]
def k0_off572 (k0_t1 : Fin k0_t1_loop.trips) : Fin 3 → Nat :=
  let c27_1307 : Index := 27#32
  let c128_1308 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3934 : Index := Scalar.indexCast v2
  ![27, 128, v3934.toNat]
def k0_off573 (k0_t1 : Fin k0_t1_loop.trips) : Fin 3 → Nat :=
  let c28_1309 : Index := 28#32
  let c128_1310 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3940 : Index := Scalar.indexCast v2
  ![28, 128, v3940.toNat]
def k0_off574 (k0_t1 : Fin k0_t1_loop.trips) : Fin 3 → Nat :=
  let c29_1311 : Index := 29#32
  let c128_1312 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3946 : Index := Scalar.indexCast v2
  ![29, 128, v3946.toNat]
def k0_off575 (k0_t1 : Fin k0_t1_loop.trips) : Fin 3 → Nat :=
  let c30_1313 : Index := 30#32
  let c128_1314 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3952 : Index := Scalar.indexCast v2
  ![30, 128, v3952.toNat]
def k0_off576 (k0_t1 : Fin k0_t1_loop.trips) : Fin 3 → Nat :=
  let c31_1315 : Index := 31#32
  let c128_1316 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3958 : Index := Scalar.indexCast v2
  ![31, 128, v3958.toNat]
def k0_off577 (k0_t1 : Fin k0_t1_loop.trips) : Fin 3 → Nat :=
  let c32_1317 : Index := 32#32
  let c128_1318 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3964 : Index := Scalar.indexCast v2
  ![32, 128, v3964.toNat]
def k0_off578 (k0_t1 : Fin k0_t1_loop.trips) : Fin 3 → Nat :=
  let c33_1319 : Index := 33#32
  let c128_1320 : Index := 128#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3970 : Index := Scalar.indexCast v2
  ![33, 128, v3970.toNat]
def k0_off579 (k0_t1 : Fin k0_t1_loop.trips) : Fin 3 → Nat :=
  let c0_1325 : Index := 0#32
  let c136 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3982 : Index := Scalar.indexCast v2
  ![0, 136, v3982.toNat]
def k0_off580 (k0_t1 : Fin k0_t1_loop.trips) : Fin 3 → Nat :=
  let c1_1326 : Index := 1#32
  let c136_1327 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3985 : Index := Scalar.indexCast v2
  ![1, 136, v3985.toNat]
def k0_off581 (k0_t1 : Fin k0_t1_loop.trips) : Fin 3 → Nat :=
  let c2_1337 : Index := 2#32
  let c136_1338 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4018 : Index := Scalar.indexCast v2
  ![2, 136, v4018.toNat]
def k0_off582 (k0_t1 : Fin k0_t1_loop.trips) : Fin 3 → Nat :=
  let c3_1339 : Index := 3#32
  let c136_1340 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4024 : Index := Scalar.indexCast v2
  ![3, 136, v4024.toNat]
def k0_off583 (k0_t1 : Fin k0_t1_loop.trips) : Fin 3 → Nat :=
  let c4_1341 : Index := 4#32
  let c136_1342 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4030 : Index := Scalar.indexCast v2
  ![4, 136, v4030.toNat]
def k0_off584 (k0_t1 : Fin k0_t1_loop.trips) : Fin 3 → Nat :=
  let c5_1343 : Index := 5#32
  let c136_1344 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4036 : Index := Scalar.indexCast v2
  ![5, 136, v4036.toNat]
def k0_off585 (k0_t1 : Fin k0_t1_loop.trips) : Fin 3 → Nat :=
  let c6_1345 : Index := 6#32
  let c136_1346 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4042 : Index := Scalar.indexCast v2
  ![6, 136, v4042.toNat]
def k0_off586 (k0_t1 : Fin k0_t1_loop.trips) : Fin 3 → Nat :=
  let c7_1347 : Index := 7#32
  let c136_1348 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4048 : Index := Scalar.indexCast v2
  ![7, 136, v4048.toNat]
def k0_off587 (k0_t1 : Fin k0_t1_loop.trips) : Fin 3 → Nat :=
  let c8_1349 : Index := 8#32
  let c136_1350 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4054 : Index := Scalar.indexCast v2
  ![8, 136, v4054.toNat]
def k0_off588 (k0_t1 : Fin k0_t1_loop.trips) : Fin 3 → Nat :=
  let c9_1351 : Index := 9#32
  let c136_1352 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4060 : Index := Scalar.indexCast v2
  ![9, 136, v4060.toNat]
def k0_off589 (k0_t1 : Fin k0_t1_loop.trips) : Fin 3 → Nat :=
  let c10_1353 : Index := 10#32
  let c136_1354 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4066 : Index := Scalar.indexCast v2
  ![10, 136, v4066.toNat]
def k0_off590 (k0_t1 : Fin k0_t1_loop.trips) : Fin 3 → Nat :=
  let c11_1355 : Index := 11#32
  let c136_1356 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4072 : Index := Scalar.indexCast v2
  ![11, 136, v4072.toNat]
def k0_off591 (k0_t1 : Fin k0_t1_loop.trips) : Fin 3 → Nat :=
  let c12_1357 : Index := 12#32
  let c136_1358 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4078 : Index := Scalar.indexCast v2
  ![12, 136, v4078.toNat]
def k0_off592 (k0_t1 : Fin k0_t1_loop.trips) : Fin 3 → Nat :=
  let c13_1359 : Index := 13#32
  let c136_1360 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4084 : Index := Scalar.indexCast v2
  ![13, 136, v4084.toNat]
def k0_off593 (k0_t1 : Fin k0_t1_loop.trips) : Fin 3 → Nat :=
  let c14_1361 : Index := 14#32
  let c136_1362 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4090 : Index := Scalar.indexCast v2
  ![14, 136, v4090.toNat]
def k0_off594 (k0_t1 : Fin k0_t1_loop.trips) : Fin 3 → Nat :=
  let c15_1363 : Index := 15#32
  let c136_1364 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4096 : Index := Scalar.indexCast v2
  ![15, 136, v4096.toNat]
def k0_off595 (k0_t1 : Fin k0_t1_loop.trips) : Fin 3 → Nat :=
  let c16_1365 : Index := 16#32
  let c136_1366 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4102 : Index := Scalar.indexCast v2
  ![16, 136, v4102.toNat]
def k0_off596 (k0_t1 : Fin k0_t1_loop.trips) : Fin 3 → Nat :=
  let c17_1367 : Index := 17#32
  let c136_1368 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4108 : Index := Scalar.indexCast v2
  ![17, 136, v4108.toNat]
def k0_off597 (k0_t1 : Fin k0_t1_loop.trips) : Fin 3 → Nat :=
  let c18_1369 : Index := 18#32
  let c136_1370 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4114 : Index := Scalar.indexCast v2
  ![18, 136, v4114.toNat]
def k0_off598 (k0_t1 : Fin k0_t1_loop.trips) : Fin 3 → Nat :=
  let c19_1371 : Index := 19#32
  let c136_1372 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4120 : Index := Scalar.indexCast v2
  ![19, 136, v4120.toNat]
def k0_off599 (k0_t1 : Fin k0_t1_loop.trips) : Fin 3 → Nat :=
  let c20_1373 : Index := 20#32
  let c136_1374 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4126 : Index := Scalar.indexCast v2
  ![20, 136, v4126.toNat]
def k0_off600 (k0_t1 : Fin k0_t1_loop.trips) : Fin 3 → Nat :=
  let c21_1375 : Index := 21#32
  let c136_1376 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4132 : Index := Scalar.indexCast v2
  ![21, 136, v4132.toNat]
def k0_off601 (k0_t1 : Fin k0_t1_loop.trips) : Fin 3 → Nat :=
  let c22_1377 : Index := 22#32
  let c136_1378 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4138 : Index := Scalar.indexCast v2
  ![22, 136, v4138.toNat]
def k0_off602 (k0_t1 : Fin k0_t1_loop.trips) : Fin 3 → Nat :=
  let c23_1379 : Index := 23#32
  let c136_1380 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4144 : Index := Scalar.indexCast v2
  ![23, 136, v4144.toNat]
def k0_off603 (k0_t1 : Fin k0_t1_loop.trips) : Fin 3 → Nat :=
  let c24_1381 : Index := 24#32
  let c136_1382 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4150 : Index := Scalar.indexCast v2
  ![24, 136, v4150.toNat]
def k0_off604 (k0_t1 : Fin k0_t1_loop.trips) : Fin 3 → Nat :=
  let c25_1383 : Index := 25#32
  let c136_1384 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4156 : Index := Scalar.indexCast v2
  ![25, 136, v4156.toNat]
def k0_off605 (k0_t1 : Fin k0_t1_loop.trips) : Fin 3 → Nat :=
  let c26_1385 : Index := 26#32
  let c136_1386 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4162 : Index := Scalar.indexCast v2
  ![26, 136, v4162.toNat]
def k0_off606 (k0_t1 : Fin k0_t1_loop.trips) : Fin 3 → Nat :=
  let c27_1387 : Index := 27#32
  let c136_1388 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4168 : Index := Scalar.indexCast v2
  ![27, 136, v4168.toNat]
def k0_off607 (k0_t1 : Fin k0_t1_loop.trips) : Fin 3 → Nat :=
  let c28_1389 : Index := 28#32
  let c136_1390 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4174 : Index := Scalar.indexCast v2
  ![28, 136, v4174.toNat]
def k0_off608 (k0_t1 : Fin k0_t1_loop.trips) : Fin 3 → Nat :=
  let c29_1391 : Index := 29#32
  let c136_1392 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4180 : Index := Scalar.indexCast v2
  ![29, 136, v4180.toNat]
def k0_off609 (k0_t1 : Fin k0_t1_loop.trips) : Fin 3 → Nat :=
  let c30_1393 : Index := 30#32
  let c136_1394 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4186 : Index := Scalar.indexCast v2
  ![30, 136, v4186.toNat]
def k0_off610 (k0_t1 : Fin k0_t1_loop.trips) : Fin 3 → Nat :=
  let c31_1395 : Index := 31#32
  let c136_1396 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4192 : Index := Scalar.indexCast v2
  ![31, 136, v4192.toNat]
def k0_off611 (k0_t1 : Fin k0_t1_loop.trips) : Fin 3 → Nat :=
  let c32_1397 : Index := 32#32
  let c136_1398 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4198 : Index := Scalar.indexCast v2
  ![32, 136, v4198.toNat]
def k0_off612 (k0_t1 : Fin k0_t1_loop.trips) : Fin 3 → Nat :=
  let c33_1399 : Index := 33#32
  let c136_1400 : Index := 136#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4204 : Index := Scalar.indexCast v2
  ![33, 136, v4204.toNat]
def k0_off613 (k0_t1 : Fin k0_t1_loop.trips) : Fin 2 → Nat :=
  let c0_1405 : Index := 0#32
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v4217 : Index := Scalar.indexCast v2
  ![0, v4217.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S18x8x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S34x144x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1x4608 : Shape := ⟨3, ![8, 1, 4608]⟩
abbrev S73728x144x34 : Shape := ⟨3, ![73728, 144, 34]⟩
abbrev S8x144x32 : Shape := ⟨3, ![8, 144, 32]⟩
abbrev S73728x144x2 : Shape := ⟨3, ![73728, 144, 2]⟩
abbrev S73728x144 : Shape := ⟨2, ![73728, 144]⟩
abbrev S73728x144x32 : Shape := ⟨3, ![73728, 144, 32]⟩
abbrev S8x73728 : Shape := ⟨2, ![8, 73728]⟩
abbrev S73728x144x1 : Shape := ⟨3, ![73728, 144, 1]⟩
abbrev S8x1x73728 : Shape := ⟨3, ![8, 1, 73728]⟩

abbrev nBuf : Space → Nat
  | .hbm => 9
  | .vmem => 4
  | .smem => 0
  | _ => 0

abbrev bufTy : (tb : Table) → Fin (tcTables nBuf tb) → BufTy
  | .hbm, ⟨0, _⟩ => ⟨S8x1x4608, .bf16⟩
  | .hbm, ⟨1, _⟩ => ⟨S73728x144x34, .i8⟩
  | .hbm, ⟨2, _⟩ => ⟨S8x144x32, .bf16⟩
  | .hbm, ⟨3, _⟩ => ⟨S73728x144x2, .i8⟩
  | .hbm, ⟨4, _⟩ => ⟨S73728x144, .f16⟩
  | .hbm, ⟨5, _⟩ => ⟨S73728x144x32, .i8⟩
  | .hbm, ⟨6, _⟩ => ⟨S73728x144x32, .i8⟩
  | .hbm, ⟨7, _⟩ => ⟨S8x73728, .bf16⟩
  | .hbm, ⟨8, _⟩ => ⟨S8x1x73728, .bf16⟩
  | .local _ .vmem, ⟨0, _⟩ => ⟨S8x144x32, .bf16⟩
  | .local _ .vmem, ⟨1, _⟩ => ⟨S73728x144, .f16⟩
  | .local _ .vmem, ⟨2, _⟩ => ⟨S73728x144x32, .i8⟩
  | .local _ .vmem, ⟨3, _⟩ => ⟨S8x73728, .bf16⟩
  | _, _ => ⟨S8x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x144x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S73728x144 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S73728x144x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x73728 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.TripShape.lean ====
module

public import proofs.«01_k».proof.Proof.Gen.KernelIdeal.Frame

@[expose] public section
set_option maxRecDepth 65536
noncomputable section
namespace Cert.KernelIdeal.Trip
open Idealize.ShloMosaic Idealize.ShloMosaic.TcCoe Idealize.ShloMosaic.Tactic Idealize.SL.Sem Cert.KernelIdeal Cert.KernelIdeal.Gen
variable {F : FTy → Type} [FloatOps F]

/-- Thirty-two pieces of 8 rows laid end to end are 256 rows. -/
theorem tile_shapes : Shape.Concatenates (List.replicate 32 S8x512) S256x512 0 := by decide

/-- The same of any thirty-two pieces of that shape. -/
theorem tile_pieces {α : Type} {f : Fin 32 → (S8x512.Idx → α)} :
    Shape.Concatenates ((List.ofFn fun j => (⟨S8x512, f j⟩ : (s : Shape) × (s.Idx → α))).map (·.1)) S256x512 0 := by
  have h : (List.ofFn fun j => (⟨S8x512, f j⟩ : (s : Shape) × (s.Idx → α))).map (·.1) = List.replicate 32 S8x512 := by
    simp [List.map_ofFn, Function.comp_def, List.ofFn_const]
  exact h ▸ tile_shapes

/-- The 256 dequantised rows of one step: the 32 pieces `code * d` of 8 rows laid end to end. -/
def tile (d : FVec F S8x512 .f32) (c : Fin 32 → Vec F S1x8x512 .i8) : FVec F S256x512 .f32 :=
  concatenate S256x512 0
    (List.ofFn fun j => ⟨S8x512, k0_pay6 d (c j)⟩) tile_pieces

/-- One of the 18 steps: the partial sums plus the product of the step's activations with its dequantised weights. -/
def step (acc : FVec F S8x512 .f32) (x : Vec F S1x8x256 .bf16) (lo hi : Vec F S1x8x512 .i8)
    (c : Fin 32 → Vec F S1x8x512 .i8) : FVec F S8x512 .f32 :=
  addf acc (matmul dot_S8x256_S256x512_S8x512_1_0_0_1_n_n none (shapeCast S8x256 x shapeCasts_S1x8x256_S8x256)
    (truncf .bf16 (tile (k0_pay3 lo hi) c) bitsLt_bf16_f32) (constant S8x512 .f32 0x00000000#32))

/-- The 18 steps in order, from zero. -/
def chain (f : Fin 18 → FVec F S8x512 .f32 → FVec F S8x512 .f32) : FVec F S8x512 .f32 :=
  f 17 (f 16 (f 15 (f 14 (f 13 (f 12 (f 11 (f 10 (f 9 (f 8 (f 7 (f 6 (f 5 (f 4 (f 3 (f 2 (f 1 (f 0 k0_pay2)))))))))))))))))

/-- Eight rows of byte column `j` at row group `b`, over the lanes of chunk `k`. -/
def bytes (x1 : Vec F S34x144x1024 .i8) (k : Fin 2) (b : Fin 18) (j : Fin 34) : Vec F S1x8x512 .i8 :=
  View.ld x1 (Rect.unit (s := S34x144x1024) ![j.val, 8 * b.val, 512 * k.val] S1x8x512.size
    (by intro a; fin_cases a <;> simp <;> omega))

/-- The activations of step `b`. -/
def acts (x0 : Vec F S18x8x256 .bf16) (b : Fin 18) : Vec F S1x8x256 .bf16 :=
  View.ld x0 (Rect.unit (s := S18x8x256) ![b.val, 0, 0] S1x8x256.size
    (by intro a; fin_cases a <;> simp <;> omega))

/-- What trip `k` of the loop over lane chunks writes, from the two input blocks. -/
def value (x0 : Vec F S18x8x256 .bf16) (x1 : Vec F S34x144x1024 .i8) (k : Fin 2) : FVec F S8x512 .bf16 :=
  truncf .bf16 (chain fun b acc => step acc (acts x0 b) (bytes x1 k b 0) (bytes x1 k b 1)
    (fun j => bytes x1 k b (j.natAdd 2))) bitsLt_bf16_f32

/-- The loop's two trips write `value` of the contents of the two input buffers, each over its 512 lanes. -/
theorem pieces (c : Dev nD) (i : grid0.Coords) (arg1 : Memref sig .tc .vmem S18x8x256 .bf16) (harg1 : arg1.IsWhole)
    (arg2 : Memref sig .tc .vmem S34x144x1024 .i8) (harg2 : arg2.IsWhole) (arg3 : Memref sig .tc .vmem S8x1024 .bf16) (harg3 : arg3.IsWhole)
    (x0 : Vec F S18x8x256 .bf16) (x1 : Vec F S34x144x1024 .i8) :
    (kernelRun0_A (F := F) c i arg1 harg1 arg2 harg2 arg3 harg3 x0 x1).1
      = [⟨Rect.unit (s := S8x1024) ![0, 512] S8x512.size (by decide),
          value (arg1.view.read (Elt F) (harg1.unread x0)) (arg2.view.read (Elt F) (harg2.unread x1)) 1⟩,
         ⟨Rect.unit (s := S8x1024) ![0, 0] S8x512.size (by decide),
          value (arg1.view.read (Elt F) (harg1.unread x0)) (arg2.view.read (Elt F) (harg2.unread x1)) 0⟩] := by
  sl_kernel_rfl

/-- So the body leaves, in the output's buffer, the two values of the input blocks side by side. -/
theorem out_eq (c : Dev nD) (i : grid0.Coords) (arg1 : Memref sig .tc .vmem S18x8x256 .bf16) (harg1 : arg1.IsWhole)
    (arg2 : Memref sig .tc .vmem S34x144x1024 .i8) (harg2 : arg2.IsWhole) (arg3 : Memref sig .tc .vmem S8x1024 .bf16) (harg3 : arg3.IsWhole)
    (x0 : Vec F S18x8x256 .bf16) (x1 : Vec F S34x144x1024 .i8) :
    out0_A_2 c i arg1 harg1 arg2 harg2 arg3 harg3 x0 x1
      = View.canon [⟨Rect.unit (s := S8x1024) ![0, 512] S8x512.size (by decide), value x0 x1 1⟩,
         ⟨Rect.unit (s := S8x1024) ![0, 0] S8x512.size (by decide), value x0 x1 0⟩] := by
  unfold out0_A_2
  rw [View.read_writes_eq_canon _ _ _ (cover0_A_2 c i arg1 harg1 arg2 harg2 arg3 harg3 x0 x1), pieces,
    harg1.read_unread, harg2.read_unread]

end Cert.KernelIdeal.Trip
-- ==== Proof.Block.lean ====
module

public import proofs.«01_k».proof.Proof.TripShape
public import Idealize.ShloMosaic.Lib.Pipeline.ValueKit
public import Idealize.ShloMosaic.Lib.Pipeline.Value

@[expose] public section
set_option maxRecDepth 65536
noncomputable section
namespace Cert.KernelIdeal.Trip
open Idealize.ShloMosaic Idealize.ShloMosaic.TcCoe Idealize.ShloMosaic.Tactic Idealize.SL.Sem Cert.KernelIdeal Cert.KernelIdeal.Gen
variable {F : FTy → Type} [FloatOps F]

/-- The right half of the output block, and the left one. -/
abbrev right : Rect S8x1024 := Rect.unit (s := S8x1024) ![0, 512] S8x512.size (by decide)
abbrev left : Rect S8x1024 := Rect.unit (s := S8x1024) ![0, 0] S8x512.size (by decide)

/-- An index of the block 512 lanes to the right of an index of a half is that index placed in the right half. -/
theorem emb_right (y : S8x512.Idx) (z : S8x1024.Idx) (h0 : (z 0).val = (y 0).val) (h1 : (z 1).val = 512 + (y 1).val) :
    z = right.emb y := by
  funext a; apply Fin.ext
  refine Eq.trans ?_ (Rect.idx_unit_val (s := S8x1024) ![0, 512] S8x512.size (by decide) y a).symm
  match a with
  | ⟨0, _⟩ => exact h0.trans (Nat.zero_add _).symm
  | ⟨1, _⟩ => exact h1

/-- An index of the block with the coordinates of an index of a half is that index placed in the left half. -/
theorem emb_left (y : S8x512.Idx) (z : S8x1024.Idx) (h0 : (z 0).val = (y 0).val) (h1 : (z 1).val = (y 1).val) :
    z = left.emb y := by
  funext a; apply Fin.ext
  refine Eq.trans ?_ (Rect.idx_unit_val (s := S8x1024) ![0, 0] S8x512.size (by decide) y a).symm
  match a with
  | ⟨0, _⟩ => exact h0.trans (Nat.zero_add _).symm
  | ⟨1, _⟩ => exact h1.trans (Nat.zero_add _).symm

/-- An index whose lane is below 512 lies outside the right half. -/
theorem not_mem_right (y : S8x512.Idx) (z : S8x1024.Idx) (h1 : (z 1).val = (y 1).val) : z ∉ right.set := by
  have hy : (y 1).val < 512 := (y 1).isLt
  rw [Rect.mem_set_unit]
  intro h
  have h2 : 512 ≤ (z 1).val := (h 1).1
  omega

/-- Two half blocks side by side, read in the right half. -/
theorem canon_right (w1 w0 : S8x512.Idx → Elt F .bf16) (y : S8x512.Idx) (z : S8x1024.Idx)
    (h0 : (z 0).val = (y 0).val) (h1 : (z 1).val = 512 + (y 1).val) :
    View.canon (Val := Elt F) (s := S8x1024) (e := .bf16) [⟨right, w1⟩, ⟨left, w0⟩] z = w1 y :=
  (congrArg _ (emb_right y z h0 h1)).trans (View.canon_cons_emb (Val := Elt F) right w1 [⟨left, w0⟩] y)

/-- The same, read in the left half. -/
theorem canon_left (w1 w0 : S8x512.Idx → Elt F .bf16) (y : S8x512.Idx) (z : S8x1024.Idx)
    (h0 : (z 0).val = (y 0).val) (h1 : (z 1).val = (y 1).val) :
    View.canon (Val := Elt F) (s := S8x1024) (e := .bf16) [⟨right, w1⟩, ⟨left, w0⟩] z = w0 y :=
  (View.canon_cons_of_not_mem (Val := Elt F) (⟨right, w1⟩ : View.Piece (Elt F) S8x1024 .bf16) [⟨left, w0⟩] (not_mem_right y z h1)).trans
    ((congrArg _ (emb_left y z h0 h1)).trans (View.canon_cons_emb (Val := Elt F) left w0 [] y))

/-- The output block at row `r` and lane `512 k + l` is the value of trip `k` at `(r, l)`. -/
theorem out_apply (c : Dev nD) (i : grid0.Coords) (arg1 : Memref sig .tc .vmem S18x8x256 .bf16) (harg1 : arg1.IsWhole)
    (arg2 : Memref sig .tc .vmem S34x144x1024 .i8) (harg2 : arg2.IsWhole) (arg3 : Memref sig .tc .vmem S8x1024 .bf16) (harg3 : arg3.IsWhole)
    (x0 : Vec F S18x8x256 .bf16) (x1 : Vec F S34x144x1024 .i8) (k : Fin 2) (y : S8x512.Idx) (z : S8x1024.Idx)
    (h0 : (z 0).val = (y 0).val) (h1 : (z 1).val = 512 * k.val + (y 1).val) :
    out0_A_2 c i arg1 harg1 arg2 harg2 arg3 harg3 x0 x1 z = value x0 x1 k y := by
  rw [out_eq]
  generalize hw : value x0 x1 = w
  match k with
  | ⟨1, _⟩ => exact canon_right _ _ y z h0 h1
  | ⟨0, _⟩ => exact canon_left _ _ y z h0 (h1.trans (by simp))
end Cert.KernelIdeal.Trip
-- ==== Proof.Word.lean ====
module

public import proofs.«01_k».proof.Proof.Gen.KernelIdeal.Skeleton
public import Idealize.ShloMosaic.Lib.IdealHost

@[expose] public section
set_option maxRecDepth 65536
noncomputable section
namespace Cert.Decode
open Idealize.ShloMosaic

/-- The scaled word the kernel forms from the two bytes of a half: its sign at bit 31, its other fifteen bits from bit 13. -/
def word (lo hi : BitVec 8) : BitVec 32 :=
  (((hi.signExtend 32 <<< 8) ||| lo.zeroExtend 32) <<< 13) &&& 2415910912#32

/-- For every pair of bytes, the three single-precision patterns the kernel forms, as numbers with their sign, exponent and
    significand fields apart: the half's pattern with its exponent moved by 112, the signed power `2 ^ (-14)`, and the pattern with its
    exponent field filled. -/
theorem word_facts : ∀ h : Fin 256, ∀ l : Fin 256,
    (word (BitVec.ofFin l) (BitVec.ofFin h) + 939524096#32).toNat = h.val / 128 * 2 ^ 31 + ((h.val % 128) * 256 + l.val) * 2 ^ 13 + 112 * 2 ^ 23
    ∧ (word (BitVec.ofFin l) (BitVec.ofFin h) &&& 2147483648#32 ||| 947912704#32).toNat = h.val / 128 * 2 ^ 31 + 113 * 2 ^ 23
    ∧ (word (BitVec.ofFin l) (BitVec.ofFin h) ||| 2139095040#32).toNat = h.val / 128 * 2 ^ 31 + 255 * 2 ^ 23 + ((h.val % 4) * 256 + l.val) * 2 ^ 13
    ∧ ((BitVec.ofFin h : BitVec 8) ++ (BitVec.ofFin l : BitVec 8)).toNat = h.val * 256 + l.val := by
  decide +kernel
end Cert.Decode
-- ==== Proof.Decode.lean ====
module

public import proofs.«01_k».proof.Proof.Word
public import Idealize.ShloMosaic.Lib.IdealHost

@[expose] public section
noncomputable section
namespace Cert.Decode
open Idealize.ShloMosaic

/-- The sign a bit `s` stands for. -/
def sgn (s : Nat) : ℝ := if s = 1 then -1 else 1

/-- A sign is one or minus one. -/
theorem sgn_cases (s : Nat) : sgn s = 1 ∨ sgn s = -1 := by unfold sgn; split <;> simp

/-- A single-precision pattern read by its three fields: sign `s`, exponent `E`, significand `T`. -/
theorem single_of_fields (b : BitVec 32) (s E T : Nat) (hs : s < 2) (hE : E < 256) (hT : T < 2 ^ 23)
    (h : b.toNat = s * 2 ^ 31 + E * 2 ^ 23 + T) :
    Ideal.ieee 8 23 b = if E = 255 then (if T = 0 then (if s = 1 then ⊥ else ⊤) else ⊥)
      else if E = 0 then ((sgn s * T * (2 : ℝ) ^ (-149 : Int) : ℝ) : EReal)
      else ((sgn s * ((2 ^ 23 + T : Nat) : ℝ) * (2 : ℝ) ^ ((E : Int) - 150) : ℝ) : EReal) := by
  have h1 : (b.extractLsb' (8 + 23) 1 == 1#1) = decide (s = 1) := by
    rw [Bool.eq_iff_iff]; simp only [beq_iff_eq, decide_eq_true_eq]
    rw [← BitVec.toNat_inj]; simp only [BitVec.extractLsb'_toNat, Nat.shiftRight_eq_div_pow, h, BitVec.toNat_ofNat]; omega
  have h2 : (b.extractLsb' 23 8).toNat = E := by
    simp only [BitVec.extractLsb'_toNat, Nat.shiftRight_eq_div_pow, h]; omega
  have h3 : (b.extractLsb' 0 23).toNat = T := by
    simp only [BitVec.extractLsb'_toNat, Nat.shiftRight_eq_div_pow, h]; omega
  unfold Ideal.ieee
  simp only [h1, h2, h3, decide_eq_true_eq]
  have e1 : (2 : Nat) ^ 8 - 1 = 255 := by norm_num
  have e2 : (1 : Int) - (2 ^ (8 - 1) - 1) - ((23 : Nat) : Int) = -149 := by norm_num
  have e3 : (E : Int) - (2 ^ (8 - 1) - 1) - ((23 : Nat) : Int) = E - 150 := by norm_num; ring
  rw [e1, e2, e3]
  rfl

/-- A half-precision pattern read by its three fields. -/
theorem half_of_fields (b : BitVec 16) (s E T : Nat) (hs : s < 2) (hE : E < 32) (hT : T < 2 ^ 10)
    (h : b.toNat = s * 2 ^ 15 + E * 2 ^ 10 + T) :
    Ideal.ieee 5 10 b = if E = 31 then (if T = 0 then (if s = 1 then ⊥ else ⊤) else ⊥)
      else if E = 0 then ((sgn s * T * (2 : ℝ) ^ (-24 : Int) : ℝ) : EReal)
      else ((sgn s * ((2 ^ 10 + T : Nat) : ℝ) * (2 : ℝ) ^ ((E : Int) - 25) : ℝ) : EReal) := by
  have h1 : (b.extractLsb' (5 + 10) 1 == 1#1) = decide (s = 1) := by
    rw [Bool.eq_iff_iff]; simp only [beq_iff_eq, decide_eq_true_eq]
    rw [← BitVec.toNat_inj]; simp only [BitVec.extractLsb'_toNat, Nat.shiftRight_eq_div_pow, h, BitVec.toNat_ofNat]; omega
  have h2 : (b.extractLsb' 10 5).toNat = E := by
    simp only [BitVec.extractLsb'_toNat, Nat.shiftRight_eq_div_pow, h]; omega
  have h3 : (b.extractLsb' 0 10).toNat = T := by
    simp only [BitVec.extractLsb'_toNat, Nat.shiftRight_eq_div_pow, h]; omega
  unfold Ideal.ieee
  simp only [h1, h2, h3, decide_eq_true_eq]
  have e1 : (2 : Nat) ^ 5 - 1 = 31 := by norm_num
  have e2 : (1 : Int) - (2 ^ (5 - 1) - 1) - ((10 : Nat) : Int) = -24 := by norm_num
  have e3 : (E : Int) - (2 ^ (5 - 1) - 1) - ((10 : Nat) : Int) = E - 25 := by norm_num; ring
  rw [e1, e2, e3]
  rfl

/-- The value the kernel decodes from the two bytes of a half, over the extended reals: the scaled pattern, its
    subnormals corrected, its infinities and not-a-numbers restored. -/
def dec (lo hi : BitVec 8) : EReal :=
  let y := Ideal.ieee 8 23 (word lo hi + 939524096#32)
  let bias := Ideal.ieee 8 23 (word lo hi &&& 2147483648#32 ||| 947912704#32)
  if Ideal.ieee 8 23 0x47800000#32 ≤ max y (-y) then Ideal.ieee 8 23 (word lo hi ||| 2139095040#32)
  else if max y (-y) < Ideal.ieee 8 23 0x38800000#32 then y + (y - bias) else y

/-- The single-precision pattern of `65536`. -/
theorem single_65536 : Ideal.ieee 8 23 0x47800000#32 = ((65536 : ℝ) : EReal) := by
  rw [single_of_fields _ 0 143 0 (by decide) (by decide) (by decide) (by decide)]
  norm_num [sgn]

/-- The single-precision pattern of `2 ^ (-14)`, the least normal half. -/
theorem single_small : Ideal.ieee 8 23 0x38800000#32 = (((2 : ℝ) ^ (-14 : Int) : ℝ) : EReal) := by
  rw [single_of_fields _ 0 113 0 (by decide) (by decide) (by decide) (by decide)]
  norm_num [sgn]

/-- The magnitude of a signed real, as the kernel takes it. -/
theorem max_neg (s : Nat) {r : ℝ} (hr : 0 ≤ r) : max ((sgn s * r : ℝ) : EReal) (-((sgn s * r : ℝ) : EReal)) = ((r : ℝ) : EReal) := by
  rw [← EReal.coe_neg]
  rcases sgn_cases s with h | h <;> rw [h]
  · rw [one_mul]; exact max_eq_left (EReal.coe_le_coe_iff.mpr (by linarith))
  · rw [neg_one_mul, neg_neg]; exact max_eq_right (EReal.coe_le_coe_iff.mpr (by linarith))

/-- The kernel's decoding of the two bytes is the half-precision value of the pattern they make. -/
theorem dec_eq (lo hi : BitVec 8) : dec lo hi = Ideal.ofBits .f16 (hi ++ lo) := by
  obtain ⟨h1, h2, h3, h4⟩ := word_facts hi.toFin lo.toFin
  obtain ⟨hb, hbl⟩ : ∃ h, h = hi.toFin.val ∧ h < 256 := ⟨_, rfl, hi.toFin.isLt⟩
  obtain ⟨lb, hll⟩ : ∃ l, l = lo.toFin.val ∧ l < 256 := ⟨_, rfl, lo.toFin.isLt⟩
  simp only [← hbl.1, ← hll.1] at h1 h2 h3 h4
  replace hbl := hbl.2
  replace hll := hll.2
  change (word lo hi + 939524096#32).toNat = _ at h1
  change (word lo hi &&& 2147483648#32 ||| 947912704#32).toNat = _ at h2
  change (word lo hi ||| 2139095040#32).toNat = _ at h3
  change (hi ++ lo).toNat = _ at h4
  obtain ⟨s, hs⟩ : ∃ s, s = hb / 128 := ⟨_, rfl⟩
  obtain ⟨E, hE⟩ : ∃ E, E = hb % 128 / 4 := ⟨_, rfl⟩
  obtain ⟨T, hT⟩ : ∃ T, T = hb % 4 * 256 + lb := ⟨_, rfl⟩
  have hsl : s < 2 := by omega
  have hEl : E < 32 := by omega
  have hTl : T < 2 ^ 10 := by omega
  have hy := single_of_fields _ s (E + 112) (T * 2 ^ 13) hsl (by omega) (by omega) (h1.trans (by omega))
  have hbias := single_of_fields _ s 113 0 hsl (by omega) (by omega) (h2.trans (by omega))
  have hinf := single_of_fields _ s 255 (T * 2 ^ 13) hsl (by omega) (by omega) (h3.trans (by omega))
  have hf := half_of_fields _ s E T hsl hEl hTl (h4.trans (by omega))
  rw [if_neg (by omega), if_neg (by omega)] at hy
  rw [if_neg (by omega), if_neg (by omega)] at hbias
  rw [if_pos rfl] at hinf
  have hy' : Ideal.ieee 8 23 (word lo hi + 939524096#32) = ((sgn s * (((2 ^ 10 + T : Nat) : ℝ) * (2 : ℝ) ^ ((E : Int) - 25)) : ℝ) : EReal) := by
    have e : (2 : ℝ) ^ (((E + 112 : Nat) : Int) - 150) = (2 : ℝ) ^ ((E : Int) - 25) * (2 : ℝ) ^ (-13 : Int) := by
      rw [← zpow_add₀ (two_ne_zero)]; exact congrArg _ (by omega)
    rw [hy, e]
    have e2 : ((2 ^ 23 + T * 2 ^ 13 : Nat) : ℝ) = ((2 ^ 10 + T : Nat) : ℝ) * 2 ^ 13 := by
      rw [Nat.cast_add, Nat.cast_add, Nat.cast_mul, Nat.cast_pow, Nat.cast_pow, Nat.cast_pow, Nat.cast_ofNat]; ring
    rw [e2]
    generalize ((2 ^ 10 + T : Nat) : ℝ) = N
    generalize (2 : ℝ) ^ ((E : Int) - 25) = p
    have e3 : sgn s * (N * 2 ^ 13) * (p * (2 : ℝ) ^ (-13 : Int)) = sgn s * (N * p) := by norm_num; ring
    rw [e3]
  have hpos : (0 : ℝ) ≤ ((2 ^ 10 + T : Nat) : ℝ) * (2 : ℝ) ^ ((E : Int) - 25) :=
    mul_nonneg (Nat.cast_nonneg _) (zpow_nonneg (by norm_num) _)
  unfold dec
  change _ = Ideal.ieee 5 10 (hi ++ lo)
  simp only [hy', max_neg s hpos, single_65536, single_small, EReal.coe_le_coe_iff, EReal.coe_lt_coe_iff]
  have hTr : ((2 ^ 10 + T : Nat) : ℝ) < 2 ^ 11 := by
    have : 2 ^ 10 + T < 2 ^ 11 := by omega
    exact_mod_cast this
  have hTr0 : (2 : ℝ) ^ 10 ≤ ((2 ^ 10 + T : Nat) : ℝ) := by
    have : 2 ^ 10 ≤ 2 ^ 10 + T := by omega
    exact_mod_cast this
  have hpow : (0 : ℝ) < (2 : ℝ) ^ ((E : Int) - 25) := zpow_pos (by norm_num) _
  by_cases c31 : E = 31
  · subst c31
    rw [if_pos, hinf, hf, if_pos rfl]
    · by_cases hT0 : T = 0
      · rw [if_pos hT0, if_pos (by omega)]
      · rw [if_neg hT0, if_neg (by omega)]
    · norm_num at hTr0 ⊢; linarith
  · have hlt : ((2 ^ 10 + T : Nat) : ℝ) * (2 : ℝ) ^ ((E : Int) - 25) < 65536 := by
      have e : (2 : ℝ) ^ ((E : Int) - 25) ≤ (2 : ℝ) ^ (5 : Int) := zpow_le_zpow_right₀ (by norm_num) (by omega)
      calc _ < 2 ^ 11 * (2 : ℝ) ^ ((E : Int) - 25) := by gcongr
        _ ≤ 2 ^ 11 * (2 : ℝ) ^ (5 : Int) := by gcongr
        _ = 65536 := by norm_num
    rw [if_neg (not_le.mpr hlt), hf, if_neg c31]
    by_cases c0 : E = 0
    · subst c0
      have hsm : ((2 ^ 10 + T : Nat) : ℝ) * (2 : ℝ) ^ (((0 : Nat) : Int) - 25) < (2 : ℝ) ^ (-14 : Int) := by
        norm_num at hTr ⊢; linarith
      rw [if_pos hsm, if_pos rfl, hbias, ← EReal.coe_sub, ← EReal.coe_add]
      have e1 : ((2 ^ 10 + T : Nat) : ℝ) = 2 ^ 10 + T := by push_cast; norm_num
      have e2 : ((2 ^ 23 + 0 : Nat) : ℝ) = 2 ^ 23 := by rw [Nat.add_zero]; push_cast; norm_num
      rw [e1, e2]
      have e3 : sgn s * ((2 ^ 10 + (T : ℝ)) * (2 : ℝ) ^ (((0 : Nat) : Int) - 25))
          + (sgn s * ((2 ^ 10 + (T : ℝ)) * (2 : ℝ) ^ (((0 : Nat) : Int) - 25)) - sgn s * 2 ^ 23 * (2 : ℝ) ^ (((113 : Nat) : Int) - 150))
          = sgn s * T * (2 : ℝ) ^ (-24 : Int) := by
        generalize sgn s = g
        norm_num
        ring
      rw [e3]
    · have hge : (2 : ℝ) ^ (-14 : Int) ≤ ((2 ^ 10 + T : Nat) : ℝ) * (2 : ℝ) ^ ((E : Int) - 25) := by
        have e : (2 : ℝ) ^ (-24 : Int) ≤ (2 : ℝ) ^ ((E : Int) - 25) := zpow_le_zpow_right₀ (by norm_num) (by omega)
        calc (2 : ℝ) ^ (-14 : Int) = 2 ^ 10 * (2 : ℝ) ^ (-24 : Int) := by norm_num
          _ ≤ 2 ^ 10 * (2 : ℝ) ^ ((E : Int) - 25) := by gcongr
          _ ≤ _ := by gcongr
      rw [if_neg (not_lt.mpr hge), if_neg c0, mul_assoc]

end Cert.Decode
-- ==== Proof.DecodeTile.lean ====
module

public import proofs.«01_k».proof.Proof.Decode
public import proofs.«01_k».proof.Proof.Gen.KernelIdeal.Skeleton

@[expose] public section
noncomputable section
namespace Cert.Decode
open Idealize.ShloMosaic Cert.KernelIdeal Cert.KernelIdeal.Gen

/-- The kernel's decoding of one pair of bytes, in its own operations. -/
def decF (F : FTy → Type) [FloatOps F] (lo hi : BitVec 8) : F .f32 :=
  Scalar.select (FloatOps.cmpf .oge (FloatOps.absf (FloatOps.ofBits (F := F) .f32 (word lo hi + 939524096#32)))
      (FloatOps.ofBits .f32 0x47800000#32))
    (FloatOps.ofBits .f32 (word lo hi ||| 2139095040#32))
    (Scalar.select (FloatOps.cmpf .olt (FloatOps.absf (FloatOps.ofBits (F := F) .f32 (word lo hi + 939524096#32)))
        (FloatOps.ofBits .f32 0x38800000#32))
      (FloatOps.addf (FloatOps.ofBits .f32 (word lo hi + 939524096#32))
        (FloatOps.subf (FloatOps.ofBits .f32 (word lo hi + 939524096#32))
          (FloatOps.ofBits .f32 (word lo hi &&& 2147483648#32 ||| 947912704#32))))
      (FloatOps.ofBits .f32 (word lo hi + 939524096#32)))

/-- The kernel's decoding of a tile of byte pairs, at an index. -/
theorem pay3_decF {F : FTy → Type} [FloatOps F] (lo hi : Vec F S1x8x512 .i8) (y : S8x512.Idx) :
    k0_pay3 (F := F) lo hi y
      = decF F (shapeCast S8x512 lo shapeCasts_S1x8x512_S8x512 y) (shapeCast S8x512 hi shapeCasts_S1x8x512_S8x512 y) := by
  unfold k0_pay3
  generalize shapeCast S8x512 lo shapeCasts_S1x8x512_S8x512 = l
  generalize shapeCast S8x512 hi shapeCasts_S1x8x512_S8x512 = h
  rfl

/-- A selection by a decided condition. -/
theorem select_decide {α : Type} (p : Prop) [Decidable p] (a b : α) : Scalar.select (BitVec.ofBool (decide p)) a b = if p then a else b := by
  by_cases h : p <;> simp [Scalar.select, h]

/-- A selection by "at least". -/
theorem select_oge {α : Type} (x y : EReal) (a b : α) : Scalar.select (Ideal.cmp .oge x y) a b = if y ≤ x then a else b :=
  select_decide (y ≤ x) a b

/-- A selection by "less than". -/
theorem select_olt {α : Type} (x y : EReal) (a b : α) : Scalar.select (Ideal.cmp .olt x y) a b = if x < y then a else b :=
  select_decide (x < y) a b

/-- Over the extended reals that decoding is `dec`. -/
theorem decF_ideal (lo hi : BitVec 8) : decF Ideal lo hi = dec lo hi := by
  unfold decF dec
  generalize word lo hi + 939524096#32 = a
  generalize word lo hi ||| 2139095040#32 = b
  generalize word lo hi &&& 2147483648#32 ||| 947912704#32 = c
  generalize (0x47800000#32 : BitVec 32) = p
  generalize (0x38800000#32 : BitVec 32) = q
  exact (select_oge _ _ _ _).trans (congrArg _ (select_olt _ _ _ _))
end Cert.Decode
-- ==== Proof.Spec.lean ====
module

public import Idealize.ShloMosaic.Lib.Pipeline.Value
public import Idealize.ShloMosaic.Lib.IdealHost

@[expose] public section
noncomputable section
namespace Cert.Spec
open Idealize.ShloMosaic
open Idealize.ShloMosaic.ValueIdx
open scoped BigOperators

/-- The real number a weight code stands for: a signed byte. -/
def code (c : BitVec 8) : EReal := ((c.toInt : ℝ) : EReal)

/-- The scale two bytes stand for: the half-precision number whose low byte is `lo` and whose high byte is `hi`. -/
def scale (lo hi : BitVec 8) : EReal := Ideal.ofBits .f16 (hi ++ lo)

/-- Weight `j` of block `b` of output `n`: its code times the block's scale. A block's 34 bytes are the two bytes of the
    scale, low first, then the 32 codes. -/
def weight (w : (⟨3, ![73728, 144, 34]⟩ : Shape).Idx → BitVec 8) (n : Fin 73728) (b : Fin 144) (j : Fin 32) : EReal :=
  code (w (ix3 n b (⟨2 + j.val, by omega⟩ : Fin 34))) * scale (w (ix3 n b (0 : Fin 34))) (w (ix3 n b (1 : Fin 34)))

/-- The linear layer over the extended reals: each result is the sum, over the 144 blocks and the 32 places of a block, of
    activation times weight. -/
def linear (x : (⟨3, ![8, 1, 4608]⟩ : Shape).Idx → EReal) (w : (⟨3, ![73728, 144, 34]⟩ : Shape).Idx → BitVec 8) :
    (⟨2, ![8, 73728]⟩ : Shape).Idx → EReal := fun i =>
  ∑ b : Fin 144, ∑ j : Fin 32, x (ix3 (i 0) (0 : Fin 1) (⟨b.val * 32 + j.val, by omega⟩ : Fin 4608)) * weight w (i 1) b j

/-- A sum over 144 blocks of 32 places, taken eight blocks at a time and place by place. -/
theorem sum_by_eights (f : Fin 144 → Fin 32 → EReal) :
    ∑ b : Fin 18, ∑ j : Fin 32, ∑ s : Fin 8, f ⟨8 * b.val + s.val, by omega⟩ j = ∑ b : Fin 144, ∑ j : Fin 32, f b j := by
  rw [← Equiv.sum_comp (finProdFinEquiv (m := 18) (n := 8)), Fintype.sum_prod_type]
  refine Finset.sum_congr rfl fun b _ => ?_
  rw [Finset.sum_comm]
  refine Finset.sum_congr rfl fun s _ => Finset.sum_congr rfl fun j _ => congrArg (fun k => f k j) (Fin.ext ?_)
  simp [finProdFinEquiv]; omega
end Cert.Spec
-- ==== Proof.StepValue.lean ====
module

public import proofs.«01_k».proof.Proof.TripShape
public import proofs.«01_k».proof.Proof.DecodeTile
public import proofs.«01_k».proof.Proof.Spec
public import Idealize.ShloMosaic.Lib.Pipeline.ValueKit
public import Idealize.ShloMosaic.Lib.Pipeline.Value
public import Idealize.ShloMosaic.Lib.MatmulPlain

@[expose] public section
noncomputable section
namespace Cert.KernelIdeal.Trip
open Idealize.ShloMosaic hiding ix2 ix3
open Idealize.ShloMosaic.ValueIdx Cert.KernelIdeal Cert.KernelIdeal.Gen Cert.Decode Cert.Spec
open scoped BigOperators

/-- A tile without its leading axis of one, at an index. -/
theorem cast_tile {α : Type} (x : S1x8x512.Idx → α) (a : Fin 8) (l : Fin 512) :
    shapeCast S8x512 x shapeCasts_S1x8x512_S8x512 (ix2 a l) = x (ix3 (0 : Fin 1) a l) :=
  shapeCast_apply x _ _ _ (by simp [Shape.rowMajor_val_two, Shape.rowMajor_val_three])

/-- A step's activations without their leading axis of one, at an index. -/
theorem cast_acts {α : Type} (x : S1x8x256.Idx → α) (a : Fin 8) (l : Fin 256) :
    shapeCast S8x256 x shapeCasts_S1x8x256_S8x256 (ix2 a l) = x (ix3 (0 : Fin 1) a l) :=
  shapeCast_apply x _ _ _ (by simp [Shape.rowMajor_val_two, Shape.rowMajor_val_three])

/-- A row of the dequantised tile: row `q` is row `q % 8` of piece `q / 8`. -/
theorem tile_apply (d : FVec Ideal S8x512 .f32) (c : Fin 32 → Vec Ideal S1x8x512 .i8) (j : Fin 32) (s : Fin 8) (q : Fin 256)
    (hq : q.val = j.val * 8 + s.val) (l : Fin 512) :
    tile d c (ix2 q l) = code (c j (ix3 (0 : Fin 1) s l)) * d (ix2 s l) := by
  unfold tile
  refine (concatenate_ofFn_apply (s₁ := S8x512) (t := S256x512) 0 (fun j => k0_pay6 d (c j)) tile_pieces rfl 8 rfl (ix2 q l) j
    (by show q.val / 8 = _; omega) (ix2 s l) (by show s.val = q.val % 8; omega) (fun b hb => ?_)).trans ?_
  · match b with
    | ⟨0, _⟩ => exact absurd rfl hb
    | ⟨1, _⟩ => rfl
  · refine Eq.trans ?_ (congrArg (fun z => code z * d (ix2 s l)) (cast_tile (c j) s l))
    rfl

/-- One step at an index: the partial sum plus the step's 32 × 8 products. -/
theorem step_apply (acc : FVec Ideal S8x512 .f32) (x : Vec Ideal S1x8x256 .bf16) (lo hi : Vec Ideal S1x8x512 .i8)
    (c : Fin 32 → Vec Ideal S1x8x512 .i8) (r : Fin 8) (l : Fin 512) :
    step acc x lo hi c (ix2 r l) = acc (ix2 r l) + ∑ j : Fin 32, ∑ s : Fin 8,
      x (ix3 (0 : Fin 1) r (⟨j.val * 8 + s.val, by omega⟩ : Fin 256)) * (code (c j (ix3 (0 : Fin 1) s l))
        * scale (lo (ix3 (0 : Fin 1) s l)) (hi (ix3 (0 : Fin 1) s l))) := by
  unfold step
  refine congrArg (acc (ix2 r l) + ·) ((Ideal.matmul_plain_apply (M := 8) (K := 256) (N := 512) none _ _ _ r l).trans ?_)
  refine (congrArg (· + _) Ideal.ofBits_zero_f32).trans ((zero_add _).trans ?_)
  rw [← Equiv.sum_comp (finProdFinEquiv (m := 32) (n := 8)), Fintype.sum_prod_type]
  refine Finset.sum_congr rfl fun j _ => Finset.sum_congr rfl fun s _ => ?_
  have hq : (finProdFinEquiv (j, s) : Fin 256) = ⟨j.val * 8 + s.val, by omega⟩ := Fin.ext (by simp [finProdFinEquiv]; omega)
  rw [hq]
  refine congrArg₂ (· * ·) (cast_acts x r _) ?_
  refine (tile_apply (k0_pay3 lo hi) c j s ⟨j.val * 8 + s.val, by omega⟩ rfl l).trans ?_
  rw [pay3_decF, decF_ideal, dec_eq, cast_tile, cast_tile]
  rfl

/-- Eight rows of a byte column, at an index. -/
theorem bytes_apply (x1 : Vec Ideal S34x144x1024 .i8) (k : Fin 2) (b : Fin 18) (j : Fin 34) (s : Fin 8) (l : Fin 512) :
    bytes x1 k b j (ix3 (0 : Fin 1) s l)
      = x1 (ix3 j (⟨8 * b.val + s.val, by omega⟩ : Fin 144) (⟨512 * k.val + l.val, by omega⟩ : Fin 1024)) := by
  unfold bytes
  refine View.ld_unit_apply_of x1 _ _ _ _ _ (fun a => ?_)
  match a with
  | ⟨0, _⟩ => rfl
  | ⟨1, _⟩ => rfl
  | ⟨2, _⟩ => rfl

/-- The activations of step `b`, at an index. -/
theorem acts_apply (x0 : Vec Ideal S18x8x256 .bf16) (b : Fin 18) (r : Fin 8) (q : Fin 256) :
    acts x0 b (ix3 (0 : Fin 1) r q) = x0 (ix3 b r q) := by
  unfold acts
  refine View.ld_unit_apply_of x0 _ _ _ _ _ (fun a => ?_)
  match a with
  | ⟨0, _⟩ => rfl
  | ⟨1, _⟩ => exact (Nat.zero_add _).symm
  | ⟨2, _⟩ => exact (Nat.zero_add _).symm

/-- Eighteen steps that each add a term, from zero, make the sum of the terms. -/
theorem chain_apply (f : Fin 18 → FVec Ideal S8x512 .f32 → FVec Ideal S8x512 .f32) (g : Fin 18 → EReal) (i : S8x512.Idx)
    (h : ∀ b acc, f b acc i = acc i + g b) : chain f i = ∑ b : Fin 18, g b := by
  unfold chain
  simp only [h, Fin.sum_univ_castSucc, Fin.sum_univ_zero]
  refine (congrArg (fun z : EReal => z + _ + _ + _ + _ + _ + _ + _ + _ + _ + _ + _ + _ + _ + _ + _ + _ + _ + _) Ideal.ofBits_zero_f32)

/-- The term of the sum a result element is: activation times code times decoded scale, at a row of the tile. -/
def term (x0 : Vec Ideal S18x8x256 .bf16) (x1 : Vec Ideal S34x144x1024 .i8) (r : Fin 8) (n : Fin 1024) (b : Fin 18) (j : Fin 32) (s : Fin 8) : EReal :=
  x0 (ix3 b r (⟨j.val * 8 + s.val, by omega⟩ : Fin 256))
    * (code (x1 (ix3 (⟨2 + j.val, by omega⟩ : Fin 34) (⟨8 * b.val + s.val, by omega⟩ : Fin 144) n))
      * scale (x1 (ix3 (0 : Fin 34) (⟨8 * b.val + s.val, by omega⟩ : Fin 144) n))
        (x1 (ix3 (1 : Fin 34) (⟨8 * b.val + s.val, by omega⟩ : Fin 144) n)))

/-- What a trip writes, at an index: the whole sum. -/
theorem value_apply (x0 : Vec Ideal S18x8x256 .bf16) (x1 : Vec Ideal S34x144x1024 .i8) (k : Fin 2) (r : Fin 8) (l : Fin 512) :
    value x0 x1 k (ix2 r l) = ∑ b : Fin 18, ∑ j : Fin 32, ∑ s : Fin 8, term x0 x1 r (⟨512 * k.val + l.val, by omega⟩ : Fin 1024) b j s := by
  unfold value
  refine (chain_apply (fun b acc => step acc (acts x0 b) (bytes x1 k b 0) (bytes x1 k b 1)
    (fun j => bytes x1 k b (j.natAdd 2))) (fun b => ∑ j : Fin 32, ∑ s : Fin 8, term x0 x1 r (⟨512 * k.val + l.val, by omega⟩ : Fin 1024) b j s) (ix2 r l) fun b acc => ?_)
  refine (step_apply _ _ _ _ _ r l).trans (congrArg (acc (ix2 r l) + ·) ?_)
  refine Finset.sum_congr rfl fun j _ => Finset.sum_congr rfl fun s _ => ?_
  unfold term
  rw [acts_apply, bytes_apply, bytes_apply, bytes_apply]
  rfl
end Cert.KernelIdeal.Trip
-- ==== Proof.KernelArray.lean ====
module

public import proofs.«01_k».proof.Proof.Block
public import proofs.«01_k».proof.Proof.StepValue
public import Idealize.ShloMosaic.Lib.StableHlo.Run

@[expose] public section
noncomputable section
namespace Cert.KernelIdeal.Trip
open Idealize.ShloMosaic hiding ix2 ix3 ix4
open Idealize.ShloMosaic.ValueIdx Idealize.ShloMosaic.TcCoe Idealize.SL.Sem Cert.KernelIdeal Cert.KernelIdeal.Gen Cert.Spec
open scoped BigOperators

variable (m : (ℓ : Loc nD τ sig) → Buf (Elt Ideal) ℓ) (ρ : Dev nD → PrngReg)

/-- The whole result, from the regrouped activations and the transposed weights. -/
def total (xp : Vec Ideal S18x8x256 .bf16) (wt : Vec Ideal S34x144x73728 .i8) : Vec Ideal S8x73728 .bf16 := fun i =>
  ∑ b : Fin 18, ∑ j : Fin 32, ∑ s : Fin 8,
    xp (ix3 b (i 0) (⟨j.val * 8 + s.val, by omega⟩ : Fin 256))
      * (code (wt (ix3 (⟨2 + j.val, by omega⟩ : Fin 34) (⟨8 * b.val + s.val, by omega⟩ : Fin 144) (i 1)))
        * scale (wt (ix3 (0 : Fin 34) (⟨8 * b.val + s.val, by omega⟩ : Fin 144) (i 1)))
            (wt (ix3 (1 : Fin 34) (⟨8 * b.val + s.val, by omega⟩ : Fin 144) (i 1))))

/-- At every grid point the activations' block is block 0. -/
theorem index0 : ∀ t : Fin cfg0.N, win0_0.index t = ![0, 0, 0] := (by decide +kernel : ∀ t : Fin grid0.N, _)
/-- At grid point `t` the weights' block is block `t` along the last axis. -/
theorem index1 : ∀ t : Fin cfg0.N, win0_1.index t = ![0, 0, t.val] := (by decide +kernel : ∀ t : Fin grid0.N, _)
/-- At grid point `t` the result's block is block `t` along the last axis. -/
theorem index2 : ∀ t : Fin cfg0.N, win0_2.index t = ![0, t.val] := (by decide +kernel : ∀ t : Fin grid0.N, _)

/-- The activations' block is the whole array at every point. -/
theorem iblk0_apply (c : Dev nD) (t : Fin cfg0.N) (x : S18x8x256.Idx) :
    (iblk m c 0 t : Vec Ideal S18x8x256 .bf16) x = (V m c main_v2 : Vec Ideal S18x8x256 .bf16) x := by
  blk_simp [iblk]
  refine congrArg (V m c main_v2) ?_
  blk_ext [index0]

/-- The weights' block at point `t` is the 1024 lanes from `1024 t`. -/
theorem iblk1_apply (c : Dev nD) (t : Fin cfg0.N) (a : Fin 34) (b : Fin 144) (n : Fin 1024) (k : Fin 73728)
    (hk : k.val = t.val * 1024 + n.val) :
    (iblk m c 1 t : Vec Ideal S34x144x1024 .i8) (ix3 a b n) = (V m c main_v3 : Vec Ideal S34x144x73728 .i8) (ix3 a b k) := by
  blk_simp [iblk]
  refine congrArg (V m c main_v3) ?_
  funext d
  apply Fin.ext
  match d with
  | ⟨0, _⟩ => blk_simp [index1]
  | ⟨1, _⟩ => blk_simp [index1]
  | ⟨2, _⟩ => blk_simp [index1]; exact hk.symm

/-- The region leaves the whole result in its result array. -/
theorem final_o (c : Dev nD) : (dats m 0 c).arrAt 2 cfg0.N = total (V m c main_v2) (V m c main_v3) := by
  refine (dats m 0 c).arrAt_eq_of_covers 2 _ (by decide +kernel) fun t hf y => ?_
  blk_simp
  rw [after0_2]
  unfold outsAt0
  have hr : (y 0).val < 8 := (y 0).isLt
  have hn : (y 1).val < 1024 := (y 1).isLt
  have hk : (y 1).val / 512 < 2 := by omega
  have hl : (y 1).val % 512 < 512 := by omega
  have ht : t.val < 72 := lt_of_lt_of_eq t.isLt N_0
  have e0 : (((cfg0.win 2).blk t).view.emb y : S8x73728.Idx) 0 = (⟨(y 0).val, hr⟩ : Fin 8) := by
    apply Fin.ext
    blk_simp [index2]
  have e1 : (((cfg0.win 2).blk t).view.emb y : S8x73728.Idx) 1 = (⟨t.val * 1024 + (y 1).val, by omega⟩ : Fin 73728) := by
    apply Fin.ext
    blk_simp [index2]
  refine (out_apply c _ _ _ _ _ _ _ (iblk m c 0 t) (iblk m c 1 t) (⟨(y 1).val / 512, hk⟩ : Fin 2)
    (ix2 (⟨(y 0).val, hr⟩ : Fin 8) (⟨(y 1).val % 512, hl⟩ : Fin 512)) y rfl (Nat.div_add_mod (y 1).val 512).symm).trans ?_
  refine (value_apply _ _ _ _ _).trans ?_
  unfold total
  refine Finset.sum_congr rfl fun b _ => Finset.sum_congr rfl fun j _ => Finset.sum_congr rfl fun s _ => ?_
  rw [e0, e1]
  unfold term
  have hw : ∀ (a : Fin 34) (k : Fin 144), (iblk m c 1 t : Vec Ideal S34x144x1024 .i8) (ix3 a k
        (⟨512 * ((y 1).val / 512) + (y 1).val % 512, by omega⟩ : Fin 1024))
      = (V m c main_v3 : Vec Ideal S34x144x73728 .i8) (ix3 a k (⟨t.val * 1024 + (y 1).val, by omega⟩ : Fin 73728)) :=
    fun a k => iblk1_apply m c t a k _ _ (by show _ = t.val * 1024 + (512 * ((y 1).val / 512) + (y 1).val % 512); show t.val * 1024 + (y 1).val = _; omega)
  rw [iblk0_apply, hw, hw, hw]

/-- The activations on a device. -/
abbrev argX (c : Dev nD) : S8x1x4608.Idx → EReal := m ((c.tc : Thread nD τ).loc main_arg0)
/-- The weights' bytes on a device. -/
abbrev argW (c : Dev nD) : S73728x144x34.Idx → BitVec 8 := m ((c.tc : Thread nD τ).loc main_arg1)

/-- The regrouping of the activations, at an index. -/
theorem regroup_apply (x : S8x1x4608.Idx → EReal) (b : Fin 18) (r : Fin 8) (j : Fin 32) (s : Fin 8) :
    shapeCast S18x8x256 (transpose S18x8x32x8 [1, 0, 3, 2] (shapeCast S8x18x8x32 x shapeCasts_S8x1x4608_S8x18x8x32)
        transposes_S8x18x8x32_S18x8x32x8_1_0_3_2) shapeCasts_S18x8x32x8_S18x8x256
      (ix3 b r (⟨j.val * 8 + s.val, by omega⟩ : Fin 256))
      = x (ix3 r (0 : Fin 1) (⟨(8 * b.val + s.val) * 32 + j.val, by omega⟩ : Fin 4608)) := by
  refine (shapeCast_apply _ _ _ (ix4 b r j s) (by
    rw [Shape.rowMajor_val_four, Shape.rowMajor_val_three]
    show ((b.val * 8 + r.val) * 32 + j.val) * 8 + s.val = (b.val * 8 + r.val) * 256 + (j.val * 8 + s.val); omega)).trans ?_
  refine (transpose_apply _ _ _ _ (ix4 r b s j) (fun a => ?_)).trans ?_
  · match a with
    | ⟨0, _⟩ => rfl
    | ⟨1, _⟩ => rfl
    | ⟨2, _⟩ => rfl
    | ⟨3, _⟩ => rfl
  exact shapeCast_apply _ _ _ _ (by
    rw [Shape.rowMajor_val_four, Shape.rowMajor_val_three]
    show (r.val * 1 + 0) * 4608 + ((8 * b.val + s.val) * 32 + j.val) = ((r.val * 18 + b.val) * 8 + s.val) * 32 + j.val; omega)

/-- The regrouped activations: group `b`, place `8 j + s` is activation `32 (8 b + s) + j`. -/
theorem V_acts (c : Dev nD) (b : Fin 18) (r : Fin 8) (j : Fin 32) (s : Fin 8) :
    (V m c main_v2 : Vec Ideal S18x8x256 .bf16) (ix3 b r (⟨j.val * 8 + s.val, by omega⟩ : Fin 256))
      = (m ((c.tc : Thread nD τ).loc main_arg0) : Vec Ideal S8x1x4608 .bf16)
          (ix3 r (0 : Fin 1) (⟨(8 * b.val + s.val) * 32 + j.val, by omega⟩ : Fin 4608)) := by
  have e : (V m c main_v2 : Vec Ideal S18x8x256 .bf16)
      = shapeCast S18x8x256 (transpose S18x8x32x8 [1, 0, 3, 2]
          (shapeCast S8x18x8x32 (m ((c.tc : Thread nD τ).loc main_arg0) : Vec Ideal S8x1x4608 .bf16) shapeCasts_S8x1x4608_S8x18x8x32)
          transposes_S8x18x8x32_S18x8x32x8_1_0_3_2) shapeCasts_S18x8x32x8_S18x8x256 := by
    unfold V V0
    after_results
    rfl
  rw [e]
  exact regroup_apply (argX m c) b r j s

/-- The transposed weights. -/
theorem V_bytes (c : Dev nD) (a : Fin 34) (k : Fin 144) (n : Fin 73728) :
    (V m c main_v3 : Vec Ideal S34x144x73728 .i8) (ix3 a k n)
      = (m ((c.tc : Thread nD τ).loc main_arg1) : Vec Ideal S73728x144x34 .i8) (ix3 n k a) := by
  have e : (V m c main_v3 : Vec Ideal S34x144x73728 .i8)
      = transpose S34x144x73728 [2, 1, 0] (m ((c.tc : Thread nD τ).loc main_arg1) : Vec Ideal S73728x144x34 .i8)
          transposes_S73728x144x34_S34x144x73728_2_1_0 := by
    show StableHlo.after hostOps0 (fun b => m (c, b)) (Proc.devRef .tc main_v3) = _
    after_results
  rw [e]
  refine transpose_apply _ _ _ _ (ix3 n k a) (fun d => ?_)
  match d with
  | ⟨0, _⟩ => rfl
  | ⟨1, _⟩ => rfl
  | ⟨2, _⟩ => rfl

/-- So the region's result array holds the linear layer of the two arguments. -/
theorem final_linear (c : Dev nD) : ((dats m 0 c).arrAt 2 cfg0.N : Vec Ideal S8x73728 .bf16)
    = linear (argX m c)
        (argW m c) := by
  refine (final_o m c).trans (funext fun i => ?_)
  unfold total linear
  refine Eq.trans ?_ (sum_by_eights fun k j => (argX m c)
    (ix3 (i 0) (0 : Fin 1) (⟨k.val * 32 + j.val, by omega⟩ : Fin 4608))
    * weight (argW m c) (i 1) k j)
  refine Finset.sum_congr rfl fun b _ => Finset.sum_congr rfl fun j _ => Finset.sum_congr rfl fun s _ => ?_
  exact congrArg₂ (· * ·) (V_acts m c b (i 0) j s) (congrArg₂ (· * ·) (congrArg code (V_bytes m c _ _ (i 1)))
    (congrArg₂ scale (V_bytes m c _ _ (i 1)) (V_bytes m c _ _ (i 1))))

/-- The run, read: the result is the linear layer of the arguments, reshaped, and the arguments are unchanged. -/
theorem run : θ_run defs (onTc (τ := τ) (main (F := Ideal))) ⟨m, fun _ => 0, ρ⟩ fun r => ∀ c : Dev nD,
      r.2.mem ((c.tc : Thread nD τ).loc main_v5)
        = shapeCast S8x1x73728 (linear (argX m c)
            (argW m c)) shapeCasts_S8x73728_S8x1x73728
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_⟩) (run_main m ρ)
  · refine ((h c).2 main_v5 (Pipeline.mem_restRefs_of main_v5 (by decide) (by decide))).trans ?_
    unfold Pipeline.afterTail₀
    have e := Pipeline.withArrays_arr spec0 (by decide) c (V0 m c) (fun w => (dats m 0 c).arrAt w cfg0.N) 2
    have e' := e.trans (final_linear m c)
    show StableHlo.after hostOps1 _ (Proc.devRef .tc main_v5) = _
    after_results
    exact congrArg (fun z => shapeCast S8x1x73728 z shapeCasts_S8x73728_S8x1x73728) e'
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
end Cert.KernelIdeal.Trip
-- ==== Proof.ReferenceArray.lean ====
module

public import proofs.«01_k».proof.Proof.Gen.ReferenceIdeal.Frame
public import proofs.«01_k».proof.Proof.Spec
public import Idealize.ShloMosaic.Lib.Pipeline.ValueKit
public import Idealize.ShloMosaic.Lib.Pipeline.Value
public import Idealize.ShloMosaic.Lib.MatmulPlain
public import Idealize.ShloMosaic.Lib.BitcastConvert
public import Idealize.ShloMosaic.Lib.TwoAxisContraction
public import Idealize.ShloMosaic.Lib.StableHlo.Run

@[expose] public section
noncomputable section
namespace Cert.ReferenceIdeal.Whole
open Idealize.ShloMosaic hiding ix2 ix3 ix4
open Idealize.ShloMosaic.ValueIdx Idealize.ShloMosaic.TcCoe Idealize.SL.Sem Cert.ReferenceIdeal Cert.ReferenceIdeal.Gen Cert.Spec
open scoped BigOperators

/-- Two bytes widened to a 16-bit word: byte 1 on byte 0. -/
theorem widen_apply {s t : Shape} (x : IVec s 8) (h : t.SplitsWords 16 s 8) (j : t.Idx) :
    Host.bitcastConvertWiden t 16 x h j
      = x (h.snoc j ⟨1, by rw [h.size_axis]; decide⟩) ++ x (h.snoc j ⟨0, by rw [h.size_axis]; decide⟩) := by
  apply BitVec.eq_of_getLsbD_eq
  intro q hq
  rw [Host.bitcastConvertWiden_getLsbD _ _ _ _ _ q hq, BitVec.getLsbD_append]
  by_cases hlo : q < 8
  · rw [if_pos hlo]
    have e1 : q / 8 = 0 := by omega
    have e2 : q % 8 = q := by omega
    simp only [e1, e2]
  · rw [if_neg hlo]
    have e1 : q / 8 = 1 := by omega
    have e2 : q % 8 = q - 8 := by omega
    simp only [e1, e2]

/-- The scale of a block, read from its two bytes. -/
theorem scale_apply (w : S73728x144x34.Idx → BitVec 8) (n : Fin 73728) (b : Fin 144) :
    (bitcastToFloat (F := Ideal) .f16 (Host.bitcastConvertWiden S73728x144 16
        (extractStridedSlice S73728x144x2 ![0, 0, 0] w slices_S73728x144x34_S73728x144x2_0_0_0)
        splits_S73728x144_w16_S73728x144x2_w8) : FVec Ideal S73728x144 .f16) (ix2 n b)
      = scale (w (ix3 n b (0 : Fin 34))) (w (ix3 n b (1 : Fin 34))) := by
  refine (congrArg (Ideal.ofBits .f16) (widen_apply _ splits_S73728x144_w16_S73728x144x2_w8 (ix2 n b))).trans ?_
  unfold scale
  refine congrArg (Ideal.ofBits .f16) (congrArg₂ (· ++ ·) ?_ ?_)
  · refine extractStridedSlice_apply _ _ _ _ _ (fun a => ?_)
    match a with
    | ⟨0, _⟩ => exact (Nat.zero_add _).symm
    | ⟨1, _⟩ => exact (Nat.zero_add _).symm
    | ⟨2, _⟩ => rfl
  · refine extractStridedSlice_apply _ _ _ _ _ (fun a => ?_)
    match a with
    | ⟨0, _⟩ => exact (Nat.zero_add _).symm
    | ⟨1, _⟩ => exact (Nat.zero_add _).symm
    | ⟨2, _⟩ => rfl

/-- The codes of a block are its bytes from the third on. -/
theorem codes_apply (w : S73728x144x34.Idx → BitVec 8) (n : Fin 73728) (b : Fin 144) (j : Fin 32) :
    extractStridedSlice S73728x144x32 ![0, 0, 2] w slices_S73728x144x34_S73728x144x32_0_0_2 (ix3 n b j)
      = w (ix3 n b (⟨2 + j.val, by omega⟩ : Fin 34)) := by
  refine extractStridedSlice_apply _ _ _ _ _ (fun a => ?_)
  match a with
  | ⟨0, _⟩ => exact (Nat.zero_add _).symm
  | ⟨1, _⟩ => exact (Nat.zero_add _).symm
  | ⟨2, _⟩ => rfl

/-- The activations by blocks of 32. -/
theorem acts_apply (x : S8x1x4608.Idx → EReal) (r : Fin 8) (b : Fin 144) (j : Fin 32) :
    shapeCast S8x144x32 x shapeCasts_S8x1x4608_S8x144x32 (ix3 r b j)
      = x (ix3 r (0 : Fin 1) (⟨b.val * 32 + j.val, by omega⟩ : Fin 4608)) :=
  shapeCast_apply _ _ _ _ (by
    rw [Shape.rowMajor_val_three, Shape.rowMajor_val_three]
    show (r.val * 1 + 0) * 4608 + (b.val * 32 + j.val) = (r.val * 144 + b.val) * 32 + j.val; omega)

/-- The contraction over blocks and places, at an index. -/
theorem dot_apply (L : FVec Ideal S8x144x32 .bf16) (R : FVec Ideal S73728x144x32 .bf16) (acc : FVec Ideal S8x73728 .f32)
    (r : Fin 8) (n : Fin 73728) :
    FloatOps.matmul dot_S8x144x32_S73728x144x32_S8x73728_12_12_0_0_n_n none L R acc (ix2 r n)
      = acc (ix2 r n) + ∑ b : Fin 144, ∑ j : Fin 32, L (ix3 r b j) * R (ix3 n b j) := by
  let D := dot_S8x144x32_S73728x144x32_S8x73728_12_12_0_0_n_n
  have hr : D.contr.rank = 2 := rfl
  have c0 : D.contr.size ⟨0, by rw [hr]; omega⟩ = 144 := rfl
  have c1 : D.contr.size ⟨1, by rw [hr]; omega⟩ = 32 := rfl
  rw [Ideal.matmul_apply, ← Equiv.sum_comp (contrEquiv2 D 144 32 hr c0 c1).symm, Fintype.sum_prod_type]
  refine congrArg (acc (ix2 r n) + ·) (Finset.sum_congr rfl fun b _ => Finset.sum_congr rfl fun j _ => ?_)
  have h0 := contrEquiv2_symm_val0 D 144 32 hr c0 c1 (b, j)
  have h1 := contrEquiv2_symm_val1 D 144 32 hr c0 c1 (b, j)
  have el : D.lhsIdx (ix2 r n) ((contrEquiv2 D 144 32 hr c0 c1).symm (b, j)) = ix3 r b j := by
    funext a; apply Fin.ext
    match a with
    | ⟨0, _⟩ => rfl
    | ⟨1, _⟩ => exact h0
    | ⟨2, _⟩ => exact h1
  have er : D.rhsIdx (ix2 r n) ((contrEquiv2 D 144 32 hr c0 c1).symm (b, j)) = ix3 n b j := by
    funext a; apply Fin.ext
    match a with
    | ⟨0, _⟩ => rfl
    | ⟨1, _⟩ => exact h0
    | ⟨2, _⟩ => exact h1
  rw [el, er]

/-- A scale, repeated along its block's 32 places. -/
theorem spread_apply (d : S73728x144.Idx → EReal) (n : Fin 73728) (b : Fin 144) (j : Fin 32) :
    broadcastTo S73728x144x32 (shapeCast S73728x144x1 d shapeCasts_S73728x144_S73728x144x1)
      broadcasts_S73728x144x1_S73728x144x32 (ix3 n b j) = d (ix2 n b) := by
  refine (broadcastTo_apply _ _ _ (ix3 n b (0 : Fin 1)) (fun a => ?_)).trans ?_
  · match a with
    | ⟨0, _⟩ => rfl
    | ⟨1, _⟩ => rfl
    | ⟨2, _⟩ => rfl
  · exact shapeCast_apply _ _ _ _ (by
      rw [Shape.rowMajor_val_three, Shape.rowMajor_val_two]
      show n.val * 144 + b.val = (n.val * 144 + b.val) * 1 + 0; omega)

/-- What the program stores, at an index: the sum over blocks and places of activation times code times scale. -/
theorem pay_apply (d : Vec Ideal S73728x144 .f16) (q : Vec Ideal S73728x144x32 .i8) (x : Vec Ideal S8x144x32 .bf16)
    (r : Fin 8) (n : Fin 73728) :
    k0_pay1 d q x (ix2 r n)
      = ∑ b : Fin 144, ∑ j : Fin 32, x (ix3 r b j) * (code (q (ix3 n b j)) * d (ix2 n b)) := by
  unfold k0_pay1
  rw [shapeCast_self, shapeCast_self, shapeCast_self]
  refine (dot_apply _ _ _ r n).trans ?_
  refine (congrArg (· + _) Ideal.ofBits_zero_f32).trans ((zero_add _).trans ?_)
  refine Finset.sum_congr rfl fun b _ => Finset.sum_congr rfl fun j _ => ?_
  refine congrArg (fun z : EReal => x (ix3 r b j) * z) ?_
  exact congrArg (fun z : EReal => code (q (ix3 n b j)) * z) (spread_apply d n b j)

/-- From the arguments: what the program stores is the linear layer. -/
theorem pay_linear (x : S8x1x4608.Idx → EReal) (w : S73728x144x34.Idx → BitVec 8) :
    k0_pay1 (F := Ideal) (bitcastToFloat (F := Ideal) .f16 (Host.bitcastConvertWiden S73728x144 16
        (extractStridedSlice S73728x144x2 ![0, 0, 0] w slices_S73728x144x34_S73728x144x2_0_0_0)
        splits_S73728x144_w16_S73728x144x2_w8))
      (extractStridedSlice S73728x144x32 ![0, 0, 2] w slices_S73728x144x34_S73728x144x32_0_0_2)
      (shapeCast S8x144x32 x shapeCasts_S8x1x4608_S8x144x32) = linear x w := by
  funext i
  have hi : i = ix2 (i 0) (i 1) := by
    funext a
    match a with
    | ⟨0, _⟩ => rfl
    | ⟨1, _⟩ => rfl
  refine (congrArg _ hi).trans ((pay_apply _ _ _ (i 0) (i 1)).trans ?_)
  unfold linear weight
  refine Finset.sum_congr rfl fun b _ => Finset.sum_congr rfl fun j _ => ?_
  exact congrArg₂ (· * ·) (acts_apply x (i 0) b j)
    (congrArg₂ (· * ·) (congrArg code (codes_apply w (i 1) b j)) (scale_apply w (i 1) b))

variable (m : (ℓ : Loc nD τ sig) → Buf (Elt Ideal) ℓ) (ρ : Dev nD → PrngReg)

/-- The activations on a device. -/
abbrev argX (c : Dev nD) : S8x1x4608.Idx → EReal := m ((c.tc : Thread nD τ).loc main_arg0)
/-- The weights' bytes on a device. -/
abbrev argW (c : Dev nD) : S73728x144x34.Idx → BitVec 8 := m ((c.tc : Thread nD τ).loc main_arg1)

/-- Before the call the activations are regrouped into blocks of 32. -/
theorem V_acts (c : Dev nD) : (V m c main_v0 : Vec Ideal S8x144x32 .bf16)
    = shapeCast S8x144x32 (argX m c) shapeCasts_S8x1x4608_S8x144x32 := by
  show StableHlo.after hostOps0 (fun b => m (c, b)) (Proc.devRef .tc main_v0) = _
  after_results
  rfl

/-- Before the call the scales are read from the first two bytes of each block. -/
theorem V_scales (c : Dev nD) : (V m c main_v2 : Vec Ideal S73728x144 .f16)
    = bitcastToFloat (F := Ideal) .f16 (Host.bitcastConvertWiden S73728x144 16
        (extractStridedSlice S73728x144x2 ![0, 0, 0] (argW m c) slices_S73728x144x34_S73728x144x2_0_0_0)
        splits_S73728x144_w16_S73728x144x2_w8) := by
  show StableHlo.after hostOps0 (fun b => m (c, b)) (Proc.devRef .tc main_v2) = _
  after_results

/-- Before the call the codes are taken from the other 32 bytes of each block. -/
theorem V_codes (c : Dev nD) : (V m c main_v4 : Vec Ideal S73728x144x32 .i8)
    = extractStridedSlice S73728x144x32 ![0, 0, 2] (argW m c) slices_S73728x144x34_S73728x144x32_0_0_2 := by
  show StableHlo.after hostOps0 (fun b => m (c, b)) (Proc.devRef .tc main_v4) = _
  after_results
  rfl

/-- The activations' one block is block 0. -/
theorem index0 : ∀ t : Fin cfg0.N, win0_0.index t = ![0, 0, 0] := (by decide +kernel : ∀ t : Fin grid0.N, _)
/-- The scales' one block is block 0. -/
theorem index1 : ∀ t : Fin cfg0.N, win0_1.index t = ![0, 0] := (by decide +kernel : ∀ t : Fin grid0.N, _)
/-- The codes' one block is block 0. -/
theorem index2 : ∀ t : Fin cfg0.N, win0_2.index t = ![0, 0, 0] := (by decide +kernel : ∀ t : Fin grid0.N, _)
/-- The result's one block is block 0. -/
theorem index3 : ∀ t : Fin cfg0.N, win0_3.index t = ![0, 0] := (by decide +kernel : ∀ t : Fin grid0.N, _)

/-- The activations' block is their whole array. -/
theorem iblk0_eq (c : Dev nD) (t : Fin cfg0.N) : (iblk m c 0 t : Vec Ideal S8x144x32 .bf16) = V m c main_v0 := by
  funext x
  blk_simp [iblk]
  refine congrArg (V m c main_v0) ?_
  blk_ext [index0]
/-- The scales' block is their whole array. -/
theorem iblk1_eq (c : Dev nD) (t : Fin cfg0.N) : (iblk m c 1 t : Vec Ideal S73728x144 .f16) = V m c main_v2 := by
  funext x
  blk_simp [iblk]
  refine congrArg (V m c main_v2) ?_
  blk_ext [index1]
/-- The codes' block is their whole array. -/
theorem iblk2_eq (c : Dev nD) (t : Fin cfg0.N) : (iblk m c 2 t : Vec Ideal S73728x144x32 .i8) = V m c main_v4 := by
  funext x
  blk_simp [iblk]
  refine congrArg (V m c main_v4) ?_
  blk_ext [index2]

/-- The stored block, from the three operands. -/
theorem out_eq (x : Vec Ideal S8x144x32 .bf16) (d : Vec Ideal S73728x144 .f16) (q : Vec Ideal S73728x144x32 .i8) :
    out0_3 x d q = k0_pay1 d q x := by
  have h2 : (![0, 0] : Fin 2 → Nat) = fun _ => 0 := by decide
  have h3 : (![0, 0, 0] : Fin 3 → Nat) = fun _ => 0 := by decide
  unfold out0_3
  rw [View.canon_unit_zero h2, View.ld_unit_zero h2, View.ld_unit_zero h3, View.ld_unit_zero h3]

/-- The region leaves the linear layer of the two arguments in its result array. -/
theorem final_linear (c : Dev nD) : ((dats m 0 c).arrAt 3 cfg0.N : Vec Ideal S8x73728 .bf16) = linear (argX m c) (argW m c) := by
  refine (dats m 0 c).arrAt_eq_of_covers 3 _ (by decide +kernel) fun t hf y => ?_
  blk_simp
  rw [after0_3, iblk0_eq, iblk1_eq, iblk2_eq, out_eq, V_acts, V_scales, V_codes, pay_linear]
  refine congrArg (linear (argX m c) (argW m c)) ?_
  blk_ext [index3]

/-- The run, read: the result is the linear layer of the arguments, reshaped, and the arguments are unchanged. -/
theorem run : θ_run defs (onTc (τ := τ) (main (F := Ideal))) ⟨m, fun _ => 0, ρ⟩ fun r => ∀ c : Dev nD,
      r.2.mem ((c.tc : Thread nD τ).loc main_v6)
        = shapeCast S8x1x73728 (linear (argX m c) (argW m c)) shapeCasts_S8x73728_S8x1x73728
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_⟩) (run_main m ρ)
  · refine ((h c).2 main_v6 (Pipeline.mem_restRefs_of main_v6 (by decide) (by decide))).trans ?_
    unfold Pipeline.afterTail₀
    have e := Pipeline.withArrays_arr spec0 (by decide) c (V0 m c) (fun w => (dats m 0 c).arrAt w cfg0.N) 3
    have e' := e.trans (final_linear m c)
    show StableHlo.after hostOps1 _ (Proc.devRef .tc main_v6) = _
    after_results
    exact congrArg (fun z => shapeCast S8x1x73728 z shapeCasts_S8x73728_S8x1x73728) e'
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
end Cert.ReferenceIdeal.Whole
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelArray
public import proofs.«01_k».proof.Proof.ReferenceArray
public import Idealize.ShloMosaic.Adequacy
public import Idealize.ShloMosaic.Init

@[expose] public section

noncomputable section

namespace Cert.Proof

open Idealize.ShloMosaic Idealize.SL.Sem Cert.Kernel

/-- From memories that agree on the arguments, both programs end with the linear layer of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Trip.run m g, ?_⟩
  refine (θ_run _ _ _).mono (fun _ h c => ⟨(h c).1.trans ?_, (h c).2⟩) (Cert.ReferenceIdeal.Whole.run m' g')
  have hx : Cert.ReferenceIdeal.Whole.argX m' c = Cert.KernelIdeal.Trip.argX m c := (hagree c).1
  have hw : Cert.ReferenceIdeal.Whole.argW m' c = Cert.KernelIdeal.Trip.argW m c := (hagree c).2
  rw [hx, hw]

/-- Everything claimed: the three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
